-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "cubic" .bf16 0x3D37#16 ((12003091 / 268435456 : ℝ) : EReal)
  ∧ IdealRules.named_const.Statement Cert.KernelIdeal.κ "root" .bf16 0x3F4C#16 ((6693141 / 8388608 : ℝ) : EReal)

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S4096x50 : Shape := ⟨2, ![4096, 50]⟩
abbrev S4096x50x16 : Shape := ⟨3, ![4096, 50, 16]⟩
abbrev S128x32 : Shape := ⟨2, ![128, 32]⟩
abbrev S8x16 : Shape := ⟨2, ![8, 16]⟩
abbrev S16x16 : Shape := ⟨2, ![16, 16]⟩
abbrev S16 : Shape := ⟨1, ![16]⟩
abbrev S64x64 : Shape := ⟨2, ![64, 64]⟩
abbrev S64 : Shape := ⟨1, ![64]⟩
abbrev S_ : Shape := ⟨0, ![]⟩
abbrev S16x64 : Shape := ⟨2, ![16, 64]⟩

class Facts : Prop where
  bcast_S_S4096x50 : S_.BroadcastsInDim S4096x50 (![] : Fin 0 → Fin S4096x50.rank)
  bcast_S_S4096x50x16 : S_.BroadcastsInDim S4096x50x16 (![] : Fin 0 → Fin S4096x50x16.rank)
  bcast_S_S16x16 : S_.BroadcastsInDim S16x16 (![] : Fin 0 → Fin S16x16.rank)
  slices_S64x64_S16x64_48_0 : S64x64.Slices ![48, 0] S16x64
  bcast_S_S16x64 : S_.BroadcastsInDim S16x64 (![] : Fin 0 → Fin S16x64.rank)

variable [Facts]

def fn_part1 {F : FTy → Type} [FloatOps F] (main_v4 : IVec S4096x50 1) (main_v9 : IVec S4096x50 1) (main_v12 : IVec S4096x50x16 1) (main_v15 : IVec S16x16 1) (main_v17 : FVec F S16x64 .f32) : IVec S4096x50 1 × IVec S4096x50 1 × IVec S4096x50x16 1 × IVec S16x16 1 × IVec S16x64 1 :=
  let main_cst_4 : FVec F S_ .f32 := constant S_ .f32 0x7F800000#32
  let main_v18 : FVec F S16x64 .f32 := broadcastInDim S16x64 ![] bcast_S_S16x64 main_cst_4
  let main_v19 : IVec S16x64 1 := cmpf .olt main_v17 main_v18
  (main_v4, main_v9, main_v12, main_v15, main_v19)

def fn {F : FTy → Type} [FloatOps F] (main_arg0 : IVec S4096x50 32) (main_arg1 : IVec S4096x50 32) (main_arg2 : FVec F S4096x50x16 .f32) (main_arg3 : FVec F S128x32 .f32) (main_arg4 : FVec F S8x16 .f32) (main_arg5 : FVec F S16x16 .f32) (main_arg6 : FVec F S16 .f32) (main_arg7 : FVec F S64x64 .f32) (main_arg8 : FVec F S64 .f32) (main_arg9 : FVec F S64x64 .f32) (main_arg10 : FVec F S64 .f32) : IVec S4096x50 1 × IVec S4096x50 1 × IVec S4096x50x16 1 × IVec S16x16 1 × IVec S16x64 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 128#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 32 := constantI S_ 32 0#32
  let main_v5 : IVec S4096x50 32 := broadcastInDim S4096x50 ![] bcast_S_S4096x50 main_c_1
  let main_v6 : IVec S4096x50 1 := cmpi .sge main_arg1 main_v5
  let main_c_2 : IVec S_ 32 := constantI S_ 32 8#32
  let main_v7 : IVec S4096x50 32 := broadcastInDim S4096x50 ![] bcast_S_S4096x50 main_c_2
  let main_v8 : IVec S4096x50 1 := cmpi .slt main_arg1 main_v7
  let main_v9 : IVec S4096x50 1 := andi main_v6 main_v8
  let main_v10 : FVec F S4096x50x16 .f32 := Host.absf main_arg2
  let main_cst : FVec F S_ .f32 := constant S_ .f32 0x7F800000#32
  let main_v11 : FVec F S4096x50x16 .f32 := broadcastInDim S4096x50x16 ![] bcast_S_S4096x50x16 main_cst
  let main_v12 : IVec S4096x50x16 1 := cmpf .olt main_v10 main_v11
  let main_v13 : FVec F S16x16 .f32 := Host.absf main_arg5
  let main_cst_3 : FVec F S_ .f32 := constant S_ .f32 0x7F800000#32
  let main_v14 : FVec F S16x16 .f32 := broadcastInDim S16x16 ![] bcast_S_S16x16 main_cst_3
  let main_v15 : IVec S16x16 1 := cmpf .olt main_v13 main_v14
  let main_v16 : FVec F S16x64 .f32 := (extractStridedSlice S16x64 ![48, 0] · slices_S64x64_S16x64_48_0) main_arg7
  let main_v17 : FVec F S16x64 .f32 := Host.absf main_v16
  fn_part1 (F := F) main_v4 main_v9 main_v12 main_v15 main_v17
-- ==== Kernel.lean ====
abbrev S4096x50 : Shape := ⟨2, ![4096, 50]⟩
abbrev S4096x50x16 : Shape := ⟨3, ![4096, 50, 16]⟩
abbrev S128x32 : Shape := ⟨2, ![128, 32]⟩
abbrev S8x16 : Shape := ⟨2, ![8, 16]⟩
abbrev S16x16 : Shape := ⟨2, ![16, 16]⟩
abbrev S16 : Shape := ⟨1, ![16]⟩
abbrev S64x64 : Shape := ⟨2, ![64, 64]⟩
abbrev S64 : Shape := ⟨1, ![64]⟩
abbrev S50x4096 : Shape := ⟨2, ![50, 4096]⟩
abbrev S50x16x4096 : Shape := ⟨3, ![50, 16, 4096]⟩
abbrev S1x16 : Shape := ⟨2, ![1, 16]⟩
abbrev S64x1 : Shape := ⟨2, ![64, 1]⟩
abbrev S50x64x4096 : Shape := ⟨3, ![50, 64, 4096]⟩
abbrev S50x2048 : Shape := ⟨2, ![50, 2048]⟩
abbrev S5x16x2048 : Shape := ⟨3, ![5, 16, 2048]⟩
abbrev S5x64x2048 : Shape := ⟨3, ![5, 64, 2048]⟩
abbrev S64x128 : Shape := ⟨2, ![64, 128]⟩
abbrev S64x8 : Shape := ⟨2, ![64, 8]⟩
abbrev S64x16 : Shape := ⟨2, ![64, 16]⟩
abbrev S32x64 : Shape := ⟨2, ![32, 64]⟩
abbrev S16x64 : Shape := ⟨2, ![16, 64]⟩
abbrev S1x2048 : Shape := ⟨2, ![1, 2048]⟩
abbrev S128x2048 : Shape := ⟨2, ![128, 2048]⟩
abbrev S8x2048 : Shape := ⟨2, ![8, 2048]⟩
abbrev S64x2048 : Shape := ⟨2, ![64, 2048]⟩
abbrev S1x16x2048 : Shape := ⟨3, ![1, 16, 2048]⟩
abbrev S16x2048 : Shape := ⟨2, ![16, 2048]⟩
abbrev S1x64x2048 : Shape := ⟨3, ![1, 64, 2048]⟩
abbrev S4096x50x64 : Shape := ⟨3, ![4096, 50, 64]⟩

abbrev nBuf : Space → Nat
  | .hbm => 19
  | .vmem => 21
  | .smem => 0
  | _ => 0

abbrev bufTy : (tb : Table) → Fin (tcTables nBuf tb) → BufTy
  | .hbm, ⟨0, _⟩ => ⟨S4096x50, .i32⟩
  | .hbm, ⟨1, _⟩ => ⟨S4096x50, .i32⟩
  | .hbm, ⟨2, _⟩ => ⟨S4096x50x16, .f32⟩
  | .hbm, ⟨3, _⟩ => ⟨S128x32, .f32⟩
  | .hbm, ⟨4, _⟩ => ⟨S8x16, .f32⟩
  | .hbm, ⟨5, _⟩ => ⟨S16x16, .f32⟩
  | .hbm, ⟨6, _⟩ => ⟨S16, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S50x4096, .i32⟩
  | .hbm, ⟨12, _⟩ => ⟨S50x4096, .i32⟩
  | .hbm, ⟨13, _⟩ => ⟨S50x16x4096, .f32⟩
  | .hbm, ⟨14, _⟩ => ⟨S1x16, .f32⟩
  | .hbm, ⟨15, _⟩ => ⟨S64x1, .f32⟩
  | .hbm, ⟨16, _⟩ => ⟨S64x1, .f32⟩
  | .hbm, ⟨17, _⟩ => ⟨S50x64x4096, .f32⟩
  | .hbm, ⟨18, _⟩ => ⟨S4096x50x64, .f32⟩
  | .local _ .vmem, ⟨0, _⟩ => ⟨S50x2048, .i32⟩
  | .local _ .vmem, ⟨1, _⟩ => ⟨S50x2048, .i32⟩
  | .local _ .vmem, ⟨2, _⟩ => ⟨S50x2048, .i32⟩
  | .local _ .vmem, ⟨3, _⟩ => ⟨S50x2048, .i32⟩
  | .local _ .vmem, ⟨4, _⟩ => ⟨S5x16x2048, .f32⟩
  | .local _ .vmem, ⟨5, _⟩ => ⟨S5x16x2048, .f32⟩
  | .local _ .vmem, ⟨6, _⟩ => ⟨S128x32, .f32⟩
  | .local _ .vmem, ⟨7, _⟩ => ⟨S8x16, .f32⟩
  | .local _ .vmem, ⟨8, _⟩ => ⟨S16x16, .f32⟩
  | .local _ .vmem, ⟨9, _⟩ => ⟨S1x16, .f32⟩
  | .local _ .vmem, ⟨10, _⟩ => ⟨S64x64, .f32⟩
  | .local _ .vmem, ⟨11, _⟩ => ⟨S64x1, .f32⟩
  | .local _ .vmem, ⟨12, _⟩ => ⟨S64x64, .f32⟩
  | .local _ .vmem, ⟨13, _⟩ => ⟨S64x1, .f32⟩
  | .local _ .vmem, ⟨14, _⟩ => ⟨S5x64x2048, .f32⟩
  | .local _ .vmem, ⟨15, _⟩ => ⟨S5x64x2048, .f32⟩
  | .local _ .vmem, ⟨16, _⟩ => ⟨S64x128, .bf16⟩
  | .local _ .vmem, ⟨17, _⟩ => ⟨S64x8, .bf16⟩
  | .local _ .vmem, ⟨18, _⟩ => ⟨S64x16, .f32⟩
  | .local _ .vmem, ⟨19, _⟩ => ⟨S64x1, .f32⟩
  | .local _ .vmem, ⟨20, _⟩ => ⟨S64x64, .bf16⟩
  | _, _ => ⟨S4096x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 10], ![false, false]⟩

def k0_off1 (i : grid0.Coords) (c0_i32_13 : BitVec 32) : Fin 2 → Nat :=
  let arg1 : BitVec 32 := BitVec.ofNat 32 (i 1).val
  let c5_i32 : BitVec 32 := 5#32
  let v12 : BitVec 32 := Scalar.muli arg1 c5_i32
  let v13 : BitVec 32 := Scalar.addi v12 c0_i32_13
  let v14 : Index := Scalar.indexCast v13
  let c0_14 : Index := 0#32
  ![v14.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S50x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S50x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S5x64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "cubic" => some ((12003091 / 268435456 : ℝ) : EReal)
  | "root" => some ((6693141 / 8388608 : ℝ) : EReal)
  | _ => none
-- ==== ReferenceIdeal.lean ====
abbrev S4096x50 : Shape := ⟨2, ![4096, 50]⟩
abbrev S4096x50x16 : Shape := ⟨3, ![4096, 50, 16]⟩
abbrev S128x32 : Shape := ⟨2, ![128, 32]⟩
abbrev S8x16 : Shape := ⟨2, ![8, 16]⟩
abbrev S16x16 : Shape := ⟨2, ![16, 16]⟩
abbrev S16 : Shape := ⟨1, ![16]⟩
abbrev S64x64 : Shape := ⟨2, ![64, 64]⟩
abbrev S64 : Shape := ⟨1, ![64]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x32 : Shape := ⟨3, ![4096, 50, 32]⟩
abbrev S1x1x16 : Shape := ⟨3, ![1, 1, 16]⟩
abbrev S4096x50x64 : Shape := ⟨3, ![4096, 50, 64]⟩
abbrev S1x1x64 : Shape := ⟨3, ![1, 1, 64]⟩

abbrev nBuf : Space → Nat
  | .hbm => 87
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S4096x50, .i32⟩
  | .hbm, ⟨2, _⟩ => ⟨S4096x50x16, .f32⟩
  | .hbm, ⟨3, _⟩ => ⟨S128x32, .f32⟩
  | .hbm, ⟨4, _⟩ => ⟨S8x16, .f32⟩
  | .hbm, ⟨5, _⟩ => ⟨S16x16, .f32⟩
  | .hbm, ⟨6, _⟩ => ⟨S16, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S4096x50, .i32⟩
  | .hbm, ⟨13, _⟩ => ⟨S4096x50, .i1⟩
  | .hbm, ⟨14, _⟩ => ⟨S_, .i32⟩
  | .hbm, ⟨15, _⟩ => ⟨S4096x50, .i32⟩
  | .hbm, ⟨16, _⟩ => ⟨S4096x50, .i32⟩
  | .hbm, ⟨17, _⟩ => ⟨S4096x50, .i32⟩
  | .hbm, ⟨18, _⟩ => ⟨S4096x50x1, .i32⟩
  | .hbm, ⟨19, _⟩ => ⟨S1, .i32⟩
  | .hbm, ⟨20, _⟩ => ⟨S_, .i32⟩
  | .hbm, ⟨21, _⟩ => ⟨S4096x50x1, .i32⟩
  | .hbm, ⟨22, _⟩ => ⟨S4096x50x1, .i1⟩
  | .hbm, ⟨23, _⟩ => ⟨S1x1x1, .i32⟩
  | .hbm, ⟨24, _⟩ => ⟨S4096x50x1, .i32⟩
  | .hbm, ⟨25, _⟩ => ⟨S4096x50x1, .i1⟩
  | .hbm, ⟨26, _⟩ => ⟨S4096x50x1, .i1⟩
  | .hbm, ⟨27, _⟩ => ⟨S_, .i1⟩
  | .hbm, ⟨28, _⟩ => ⟨S4096x50, .i1⟩
  | .hbm, ⟨29, _⟩ => ⟨S4096x50x32, .f32⟩
  | .hbm, ⟨30, _⟩ => ⟨S4096x50x32, .i1⟩
  | .hbm, ⟨31, _⟩ => ⟨S_, .f32⟩
  | .hbm, ⟨32, _⟩ => ⟨S4096x50x32, .f32⟩
  | .hbm, ⟨33, _⟩ => ⟨S4096x50x32, .f32⟩
  | .hbm, ⟨34, _⟩ => ⟨S_, .i32⟩
  | .hbm, ⟨35, _⟩ => ⟨S4096x50, .i32⟩
  | .hbm, ⟨36, _⟩ => ⟨S4096x50, .i1⟩
  | .hbm, ⟨37, _⟩ => ⟨S_, .i32⟩
  | .hbm, ⟨38, _⟩ => ⟨S4096x50, .i32⟩
  | .hbm, ⟨39, _⟩ => ⟨S4096x50, .i32⟩
  | .hbm, ⟨40, _⟩ => ⟨S4096x50, .i32⟩
  | .hbm, ⟨41, _⟩ => ⟨S4096x50x1, .i32⟩
  | .hbm, ⟨42, _⟩ => ⟨S1, .i32⟩
  | .hbm, ⟨43, _⟩ => ⟨S_, .i32⟩
  | .hbm, ⟨44, _⟩ => ⟨S4096x50x1, .i32⟩
  | .hbm, ⟨45, _⟩ => ⟨S4096x50x1, .i1⟩
  | .hbm, ⟨46, _⟩ => ⟨S1x1x1, .i32⟩
  | .hbm, ⟨47, _⟩ => ⟨S4096x50x1, .i32⟩
  | .hbm, ⟨48, _⟩ => ⟨S4096x50x1, .i1⟩
  | .hbm, ⟨49, _⟩ => ⟨S4096x50x1, .i1⟩
  | .hbm, ⟨50, _⟩ => ⟨S_, .i1⟩
  | .hbm, ⟨51, _⟩ => ⟨S4096x50, .i1⟩
  | .hbm, ⟨52, _⟩ => ⟨S4096x50x16, .f32⟩
  | .hbm, ⟨53, _⟩ => ⟨S4096x50x16, .i1⟩
  | .hbm, ⟨54, _⟩ => ⟨S_, .f32⟩
  | .hbm, ⟨55, _⟩ => ⟨S4096x50x16, .f32⟩
  | .hbm, ⟨56, _⟩ => ⟨S4096x50x16, .f32⟩
  | .hbm, ⟨57, _⟩ => ⟨S4096x50x16, .f32⟩
  | .hbm, ⟨58, _⟩ => ⟨S1x1x16, .f32⟩
  | .hbm, ⟨59, _⟩ => ⟨S4096x50x16, .f32⟩
  | .hbm, ⟨60, _⟩ => ⟨S4096x50x16, .f32⟩
  | .hbm, ⟨61, _⟩ => ⟨S4096x50x64, .f32⟩
  | .hbm, ⟨62, _⟩ => ⟨S4096x50x64, .f32⟩
  | .hbm, ⟨63, _⟩ => ⟨S1x1x64, .f32⟩
  | .hbm, ⟨64, _⟩ => ⟨S4096x50x64, .f32⟩
  | .hbm, ⟨65, _⟩ => ⟨S4096x50x64, .f32⟩
  | .hbm, ⟨66, _⟩ => ⟨S4096x50x64, .f32⟩
  | .hbm, ⟨67, _⟩ => ⟨S4096x50x64, .f32⟩
  | .hbm, ⟨68, _⟩ => ⟨S_, .f32⟩
  | .hbm, ⟨69, _⟩ => ⟨S4096x50x64, .f32⟩
  | .hbm, ⟨70, _⟩ => ⟨S4096x50x64, .f32⟩
  | .hbm, ⟨71, _⟩ => ⟨S4096x50x64, .f32⟩
  | .hbm, ⟨72, _⟩ => ⟨S_, .f32⟩
  | .hbm, ⟨73, _⟩ => ⟨S4096x50x64, .f32⟩
  | .hbm, ⟨74, _⟩ => ⟨S4096x50x64, .f32⟩
  | .hbm, ⟨75, _⟩ => ⟨S4096x50x64, .f32⟩
  | .hbm, ⟨76, _⟩ => ⟨S_, .f32⟩
  | .hbm, ⟨77, _⟩ => ⟨S4096x50x64, .f32⟩
  | .hbm, ⟨78, _⟩ => ⟨S4096x50x64, .f32⟩
  | .hbm, ⟨79, _⟩ => ⟨S_, .f32⟩
  | .hbm, ⟨80, _⟩ => ⟨S4096x50x64, .f32⟩
  | .hbm, ⟨81, _⟩ => ⟨S4096x50x64, .f32⟩
  | .hbm, ⟨82, _⟩ => ⟨S4096x50x64, .f32⟩
  | .hbm, ⟨83, _⟩ => ⟨S4096x50x64, .f32⟩
  | .hbm, ⟨84, _⟩ => ⟨S1x1x64, .f32⟩
  | .hbm, ⟨85, _⟩ => ⟨S4096x50x64, .f32⟩
  | .hbm, ⟨86, _⟩ => ⟨S4096x50x64, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v1 : Ref sig .tc := ⟨.hbm, 56, rfl⟩
abbrev main_v2 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_cst : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_cst_0 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_cst_1 : Ref sig .tc := ⟨.hbm, 76, rfl⟩
abbrev main_v19 : Ref sig .tc := ⟨.hbm, 77, rfl⟩
abbrev main_v20 : Ref sig .tc := ⟨.hbm, 78, rfl⟩
abbrev main_cst_2 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩

abbrev nD : Nat := 1
abbrev τ : Topo := Topo.v7x

variable {F : FTy → Type} [FloatOps F]
-- ==== Proof.Math.lean ====
/- The mathematics of the certificate, on the extended reals and apart from both programs.

   A node carries two small words, the numbers of a row of each of two tables, and sixteen features. The plain
   computation looks the two rows up, maps the features affinely, lines the three up as 64 entries, applies an affine
   map with weights `wf`, then `gelu`, then a last affine map. The other computation first multiplies `wf` into the two
   tables and into the features' map, and looks a row up by multiplying by a column that is 1 at one place and 0 elsewhere.
   `folded_eq_direct` says that the two agree where the features, their map's weights and the part of `wf` that meets
   them are real numbers and the two words name rows that are there. -/
module

public import Idealize.ShloMosaic.PureOps.Ideal
public import Idealize.ShloMosaic.PureOps.Ideal.Laws
public import Idealize.ShloMosaic.Lib.Affine

@[expose] public section

noncomputable section

namespace Cert.NodeMap

open Idealize.ShloMosaic

/-- The tables, weights and biases that every node shares. -/
structure Weights where
  /-- the 128 rows of the first table -/
  atom : Fin 128 → Fin 32 → EReal
  /-- the 8 rows of the second table -/
  hybrid : Fin 8 → Fin 16 → EReal
  /-- the features' map: its weights -/
  wc : Fin 16 → Fin 16 → EReal
  /-- the features' map: its bias -/
  bc : Fin 16 → EReal
  /-- the first layer's weights: 32 rows for the first table, 16 for the second, 16 for the features -/
  wf : Fin 64 → Fin 64 → EReal
  /-- the first layer's bias -/
  bf : Fin 64 → EReal
  /-- the last layer's weights -/
  wo : Fin 64 → Fin 64 → EReal
  /-- the last layer's bias -/
  bo : Fin 64 → EReal

/-- The smooth step `z · ½(1 + tanh(root · (z + cubic · z³)))`, its two constants the nearest single-precision values. -/
def gelu (z : EReal) : EReal :=
  z * (((1 / 2 : ℝ) : EReal) * (1 + Ideal.tanh (((6693141 / 8388608 : ℝ) : EReal) *
    (z + ((12003091 / 268435456 : ℝ) : EReal) * (z * (z * z))))))

/-- Row `j` of the part of a 64-row matrix that starts at row `o`. -/
abbrev row (o : ℕ) {n : ℕ} (j : Fin n) (h : o + n ≤ 64) : Fin 64 := ⟨o + j.val, by omega⟩

variable (P : Weights)

/-! ## The folded computation -/

/-- The first table with the first layer's weights multiplied in. -/
def atomFold (h : Fin 64) (v : Fin 128) : EReal := ∑ j : Fin 32, P.wf (row 0 j (by decide)) h * P.atom v j
/-- The second table with the first layer's weights multiplied in. -/
def hybridFold (h : Fin 64) (v : Fin 8) : EReal := ∑ j : Fin 16, P.wf (row 32 j (by decide)) h * P.hybrid v j
/-- The features' weights with the first layer's multiplied in. -/
def contFold (h : Fin 64) (k : Fin 16) : EReal := ∑ j : Fin 16, P.wf (row 48 j (by decide)) h * P.wc k j
/-- The features' bias through the first layer, and the first layer's own. -/
def biasFold (h : Fin 64) : EReal := (∑ j : Fin 16, P.wf (row 48 j (by decide)) h * P.bc j) + P.bf h

/-- The entry at place `v` of the column that is 1 where the word `w` is the number of the place and 0 elsewhere, as a
    comparison's bit widened to a word and read as a number. -/
def hot (w : BitVec 32) (v : ℕ) : EReal :=
  FloatOps.sitofp (F := Ideal) .f32 (BitVec.setWidth 32 (IntOp.cmpi .eq w (BitVec.ofNat 32 v)))

/-- The first layer, from tables `ta` and `th`, weights `w1` and a bias `b1` that are already multiplied together. -/
def preOf (ta : Fin 64 → Fin 128 → EReal) (th : Fin 64 → Fin 8 → EReal) (w1 : Fin 64 → Fin 16 → EReal) (b1 : Fin 64 → EReal)
    (aw hw : BitVec 32) (x : Fin 16 → EReal) (h : Fin 64) : EReal :=
  (∑ v : Fin 128, ta h v * hot aw v.val) + (∑ v : Fin 8, th h v * hot hw v.val) + (∑ k : Fin 16, w1 h k * x k) + b1 h

/-- A node's result `o`, from tables, weights and biases as `preOf` takes them and the last layer's `wo` and `bo`. -/
def outOf (ta : Fin 64 → Fin 128 → EReal) (th : Fin 64 → Fin 8 → EReal) (w1 : Fin 64 → Fin 16 → EReal) (b1 : Fin 64 → EReal)
    (wo : Fin 64 → Fin 64 → EReal) (bo : Fin 64 → EReal) (aw hw : BitVec 32) (x : Fin 16 → EReal) (o : Fin 64) : EReal :=
  (∑ h : Fin 64, wo h o * gelu (preOf ta th w1 b1 aw hw x h)) + bo o

/-- A node's result `o` by the folded computation. -/
def folded (aw hw : BitVec 32) (x : Fin 16 → EReal) (o : Fin 64) : EReal :=
  outOf (atomFold P) (hybridFold P) (contFold P) (biasFold P) P.wo P.bo aw hw x o

/-! ## The plain computation -/

/-- The features after their affine map. -/
def cont (x : Fin 16 → EReal) (j : Fin 16) : EReal := (∑ k : Fin 16, x k * P.wc k j) + P.bc j

/-- The 64 entries that enter the first layer: a row of each table and the mapped features. -/
def entry (r : Fin 128) (s : Fin 8) (x : Fin 16 → EReal) (j : Fin 64) : EReal :=
  if h : j.val < 32 then P.atom r ⟨j.val, h⟩
  else if h' : j.val - 32 < 16 then P.hybrid s ⟨j.val - 32, h'⟩
  else cont P x ⟨j.val - 32 - 16, by omega⟩

/-- The first layer on those entries. -/
def preDirect (r : Fin 128) (s : Fin 8) (x : Fin 16 → EReal) (h : Fin 64) : EReal :=
  (∑ j : Fin 64, entry P r s x j * P.wf j h) + P.bf h

/-- A node's result `o` by the plain computation. -/
def direct (r : Fin 128) (s : Fin 8) (x : Fin 16 → EReal) (o : Fin 64) : EReal :=
  (∑ h : Fin 64, gelu (preDirect P r s x h) * P.wo h o) + P.bo o

/-! ## The two agree -/

/-- `hot` is 1 at the word's own place and 0 at the others. -/
theorem hot_eq (w : BitVec 32) (v : ℕ) : hot w v = if w = BitVec.ofNat 32 v then 1 else 0 := by
  by_cases h : w = BitVec.ofNat 32 v
  · rw [if_pos h]; unfold hot; rw [IntOp.cmpi_eq.mpr h]
    show (((BitVec.setWidth 32 1#1).toInt : ℝ) : EReal) = 1
    rw [show (BitVec.setWidth 32 1#1).toInt = 1 from by decide]; norm_num
  · have h0 : IntOp.cmpi .eq w (BitVec.ofNat 32 v) = 0#1 := by
      have := mt IntOp.cmpi_eq.mp h
      revert this; generalize IntOp.cmpi .eq w (BitVec.ofNat 32 v) = b; revert b; decide
    rw [if_neg h]; unfold hot; rw [h0]
    show (((BitVec.setWidth 32 0#1).toInt : ℝ) : EReal) = 0
    rw [show (BitVec.setWidth 32 0#1).toInt = 0 from by decide]; norm_num

/-- A sum against that column is the term at the word's own place. -/
theorem sum_hot {n : ℕ} (hn : n ≤ 2 ^ 32) (f : Fin n → EReal) (w : BitVec 32) (r : Fin n) (hw : w = BitVec.ofNat 32 r.val) :
    ∑ v : Fin n, f v * hot w v.val = f r := by
  rw [Finset.sum_eq_single r]
  · rw [hot_eq, if_pos hw, mul_one]
  · intro v _ hv
    rw [hot_eq, if_neg, mul_zero]
    intro e
    apply hv
    have := congrArg BitVec.toNat (hw.symm.trans e)
    rw [BitVec.toNat_ofNat, BitVec.toNat_ofNat, Nat.mod_eq_of_lt (by omega), Nat.mod_eq_of_lt (by omega)] at this
    exact Fin.ext this.symm
  · exact fun h => absurd (Finset.mem_univ _) h

/-- A real factor distributes over a sum of a real number and any extended real. -/
theorem add_mul_real (a w : ℝ) (b : EReal) : ((a : EReal) + b) * (w : EReal) = (a : EReal) * w + b * w := by
  induction b with
  | coe b => norm_cast; ring
  | top =>
    rcases lt_trichotomy w 0 with h | h | h
    · rw [EReal.coe_add_top, EReal.top_mul_coe_of_neg h, ← EReal.coe_mul, EReal.add_bot]
    · subst h; simp
    · rw [EReal.coe_add_top, EReal.top_mul_coe_of_pos h, ← EReal.coe_mul, EReal.coe_add_top]
  | bot =>
    rcases lt_trichotomy w 0 with h | h | h
    · rw [EReal.add_bot, EReal.bot_mul_coe_of_neg h, ← EReal.coe_mul, EReal.coe_add_top]
    · subst h; simp
    · rw [EReal.add_bot, EReal.bot_mul_coe_of_pos h, ← EReal.coe_mul, EReal.add_bot]

/-- A finite sum of real numbers is the same sum taken in the extended reals. -/
theorem coe_sum {n : ℕ} (f : Fin n → ℝ) : ((∑ k : Fin n, f k : ℝ) : EReal) = ∑ k : Fin n, (f k : EReal) :=
  map_sum (⟨⟨Real.toEReal, EReal.coe_zero⟩, EReal.coe_add⟩ : ℝ →+ EReal) f Finset.univ

/-- The mapped features through real weights `w`: the weights multiplied into the features' map first, and the bias apart. -/
theorem cont_through (x : Fin 16 → EReal) (hx : ∀ k, ∃ r : ℝ, x k = r) (hc : ∀ k j, ∃ r : ℝ, P.wc k j = r)
    (w : Fin 16 → EReal) (hw : ∀ j, ∃ r : ℝ, w j = r) :
    ∑ j : Fin 16, cont P x j * w j = (∑ k : Fin 16, (∑ j : Fin 16, w j * P.wc k j) * x k) + ∑ j : Fin 16, w j * P.bc j := by
  choose xr hx using hx
  choose cr hc using hc
  choose wr hw using hw
  have h1 : ∀ j, cont P x j * w j = ((∑ k : Fin 16, xr k * cr k j * wr j : ℝ) : EReal) + w j * P.bc j := fun j => by
    unfold cont
    rw [show (∑ k : Fin 16, x k * P.wc k j) = ((∑ k : Fin 16, xr k * cr k j : ℝ) : EReal) from by
      rw [coe_sum]; exact Finset.sum_congr rfl fun k _ => by rw [hx, hc, EReal.coe_mul], hw, add_mul_real,
      ← EReal.coe_mul, Finset.sum_mul, mul_comm (P.bc j)]
  have h2 : ∀ k, (∑ j : Fin 16, w j * P.wc k j) * x k = ((∑ j : Fin 16, xr k * cr k j * wr j : ℝ) : EReal) := fun k => by
    rw [show (∑ j : Fin 16, w j * P.wc k j) = ((∑ j : Fin 16, wr j * cr k j : ℝ) : EReal) from by
      rw [coe_sum]; exact Finset.sum_congr rfl fun j _ => by rw [hw, hc, EReal.coe_mul], hx, ← EReal.coe_mul, Finset.sum_mul]
    exact congrArg Real.toEReal (Finset.sum_congr rfl fun j _ => by ring)
  rw [Finset.sum_congr rfl fun j _ => h1 j, Finset.sum_add_distrib, Finset.sum_congr rfl fun k _ => h2 k, ← coe_sum, ← coe_sum,
    Finset.sum_comm]

/-- A sum over the 64 entries is a sum over each of the three parts. -/
theorem sum_parts (f : Fin 64 → EReal) :
    ∑ j : Fin 64, f j = (∑ j : Fin 32, f (row 0 j (by decide))) + (∑ j : Fin 16, f (row 32 j (by decide)))
      + ∑ j : Fin 16, f (row 48 j (by decide)) := by
  have e1 : ∑ j : Fin (48 + 16), f j = (∑ j : Fin 48, f (Fin.castAdd 16 j)) + ∑ j : Fin 16, f (Fin.natAdd 48 j) :=
    Fin.sum_univ_add _
  have e2 : ∑ j : Fin (32 + 16), f (Fin.castAdd 16 j)
      = (∑ j : Fin 32, f (Fin.castAdd 16 (Fin.castAdd 16 j))) + ∑ j : Fin 16, f (Fin.castAdd 16 (Fin.natAdd 32 j)) :=
    Fin.sum_univ_add (fun j : Fin (32 + 16) => f (Fin.castAdd 16 j))
  refine e1.trans ?_
  rw [show (∑ j : Fin 48, f (Fin.castAdd 16 j)) = _ from e2]
  congr 2

section
variable {P} {aw hw : BitVec 32} {x : Fin 16 → EReal} {r : Fin 128} {s : Fin 8}

/-- The first layer is the same in both computations. -/
theorem pre_eq (ha : aw = BitVec.ofNat 32 r.val) (hh : hw = BitVec.ofNat 32 s.val) (hx : ∀ k, ∃ a : ℝ, x k = a)
    (hc : ∀ k j, ∃ a : ℝ, P.wc k j = a) (hf : ∀ (j : Fin 16) (h : Fin 64), ∃ a : ℝ, P.wf (row 48 j (by decide)) h = a)
    (h : Fin 64) :
    preOf (atomFold P) (hybridFold P) (contFold P) (biasFold P) aw hw x h = preDirect P r s x h := by
  unfold preOf preDirect
  rw [sum_hot (by decide) _ aw r ha, sum_hot (by decide) _ hw s hh, sum_parts]
  have p0 : ∑ j : Fin 32, entry P r s x (row 0 j (by decide)) * P.wf (row 0 j (by decide)) h = atomFold P h r :=
    Finset.sum_congr rfl fun j _ => by
      have e : entry P r s x (row 0 j (by decide)) = P.atom r j := by
        unfold entry; rw [dif_pos (show 0 + j.val < 32 by omega)]; congr 1; exact Fin.ext (Nat.zero_add _)
      rw [e, mul_comm]
  have p1 : ∑ j : Fin 16, entry P r s x (row 32 j (by decide)) * P.wf (row 32 j (by decide)) h = hybridFold P h s :=
    Finset.sum_congr rfl fun j _ => by
      have e : entry P r s x (row 32 j (by decide)) = P.hybrid s j := by
        unfold entry
        rw [dif_neg (show ¬ 32 + j.val < 32 by omega), dif_pos (show 32 + j.val - 32 < 16 by omega)]
        congr 1; exact Fin.ext (by simp)
      rw [e, mul_comm]
  have p2 : ∑ j : Fin 16, entry P r s x (row 48 j (by decide)) * P.wf (row 48 j (by decide)) h
      = ∑ j : Fin 16, cont P x j * P.wf (row 48 j (by decide)) h :=
    Finset.sum_congr rfl fun j _ => by
      have e : entry P r s x (row 48 j (by decide)) = cont P x j := by
        unfold entry
        rw [dif_neg (show ¬ 48 + j.val < 32 by omega), dif_neg (show ¬ 48 + j.val - 32 < 16 by omega)]
        congr 1; exact Fin.ext (by simp; omega)
      rw [e]
  rw [p0, p1, p2, cont_through P x hx hc _ (fun j => hf j h)]
  unfold contFold biasFold
  simp only [add_assoc]

/-- THE EQUATION: the folded computation of a node's result is the plain one. -/
theorem folded_eq_direct (ha : aw = BitVec.ofNat 32 r.val) (hh : hw = BitVec.ofNat 32 s.val) (hx : ∀ k, ∃ a : ℝ, x k = a)
    (hc : ∀ k j, ∃ a : ℝ, P.wc k j = a) (hf : ∀ (j : Fin 16) (h : Fin 64), ∃ a : ℝ, P.wf (row 48 j (by decide)) h = a)
    (o : Fin 64) : folded P aw hw x o = direct P r s x o := by
  unfold folded outOf direct
  refine congrArg (· + P.bo o) (Finset.sum_congr rfl fun h _ => ?_)
  rw [pre_eq ha hh hx hc hf, mul_comm]

end

end Cert.NodeMap

end
-- ==== Proof.Entry.lean ====
/- What the kernel finds in its windows: the block that each input window holds at a grid point, read at coordinates of
   the argument arrays. The host's transposes and reshapes before the launch are read here too. -/
module

public import proofs.«01_k».proof.Proof.Gen.KernelIdeal.Frame
public import proofs.«01_k».proof.Proof.Math
public import Idealize.ShloMosaic.Lib.Pointwise
public import Idealize.ShloMosaic.Lib.Pipeline.ValueKit

@[expose] public section

set_option maxRecDepth 16384

noncomputable section

namespace Cert.KernelIdeal

open Idealize.ShloMosaic Idealize.ShloMosaic.TcCoe Idealize.SL.Sem Gen Cert.NodeMap

variable (m : (ℓ : Loc nD τ sig) → Buf (Elt Ideal) ℓ) (c : Dev nD)

/-- The argument array of the first table's row numbers. -/
abbrev argAtom : S4096x50.Idx → BitVec 32 := m ((c : Thread nD τ).loc main_arg0)
/-- The argument array of the second table's row numbers. -/
abbrev argHybrid : S4096x50.Idx → BitVec 32 := m ((c : Thread nD τ).loc main_arg1)
/-- The argument array of the features. -/
abbrev argCont : S4096x50x16.Idx → EReal := m ((c : Thread nD τ).loc main_arg2)
/-- The argument array of the first table. -/
abbrev argAt : S128x32.Idx → EReal := m ((c : Thread nD τ).loc main_arg3)
/-- The argument array of the second table. -/
abbrev argHt : S8x16.Idx → EReal := m ((c : Thread nD τ).loc main_arg4)
/-- The argument array of the features' weights. -/
abbrev argWc : S16x16.Idx → EReal := m ((c : Thread nD τ).loc main_arg5)
/-- The argument array of the features' bias. -/
abbrev argBc : S16.Idx → EReal := m ((c : Thread nD τ).loc main_arg6)
/-- The argument array of the first layer's weights. -/
abbrev argWf : S64x64.Idx → EReal := m ((c : Thread nD τ).loc main_arg7)
/-- The argument array of the first layer's bias. -/
abbrev argBf : S64.Idx → EReal := m ((c : Thread nD τ).loc main_arg8)
/-- The argument array of the last layer's weights. -/
abbrev argWo : S64x64.Idx → EReal := m ((c : Thread nD τ).loc main_arg9)
/-- The argument array of the last layer's bias. -/
abbrev argBo : S64.Idx → EReal := m ((c : Thread nD τ).loc main_arg10)

/-- The tables, weights and biases that the argument arrays hold. -/
def weights : Weights where
  atom v j := argAt m c (ix2 v j)
  hybrid v j := argHt m c (ix2 v j)
  wc k j := argWc m c (ix2 k j)
  bc j := argBc m c (ix1 j)
  wf j h := argWf m c (ix2 j h)
  bf h := argBf m c (ix1 h)
  wo h o := argWo m c (ix2 h o)
  bo o := argBo m c (ix1 o)

/-- Which block of its array each window holds at point `t`. -/
theorem idx : ∀ t : Fin grid0.N,
    win0_0.index t = ![0, t.val / 10] ∧ win0_1.index t = ![0, t.val / 10] ∧ win0_2.index t = ![t.val % 10, 0, t.val / 10]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val % 10, 0, t.val / 10] := by decide +kernel

/-- The batch column of the arrays at which column `b` of point `t`'s block lies. -/
abbrev colAt (t : Fin cfg0.N) (b : Fin 2048) : Fin 4096 := ⟨t.val / 10 * 2048 + b.val, by have := lt_of_lt_of_eq t.isLt N_0; omega⟩
/-- The node at which node `a` of point `t`'s block lies. -/
abbrev nodeAt (t : Fin cfg0.N) (a : Fin 5) : Fin 50 := ⟨t.val % 10 * 5 + a.val, by omega⟩

/-! ## The arrays that the host lays out before the launch -/

/-- The first table's row numbers, transposed. -/
theorem entry_v0 : (V m c main_v0 : S50x4096.Idx → BitVec 32)
    = transpose S50x4096 [1, 0] (argAtom m c) transposes_S4096x50_S50x4096_1_0 := rfl
/-- The second table's row numbers, transposed. -/
theorem entry_v1 : (V m c main_v1 : S50x4096.Idx → BitVec 32)
    = transpose S50x4096 [1, 0] (argHybrid m c) transposes_S4096x50_S50x4096_1_0 := rfl
/-- The features, the batch last. -/
theorem entry_v2 : (V m c main_v2 : S50x16x4096.Idx → EReal)
    = transpose S50x16x4096 [1, 2, 0] (argCont m c) transposes_S4096x50x16_S50x16x4096_1_2_0 := rfl
/-- The features' bias as a row. -/
theorem entry_v3 : (V m c main_v3 : S1x16.Idx → EReal) = shapeCast S1x16 (argBc m c) shapeCasts_S16_S1x16 := rfl
/-- The first layer's bias as a column. -/
theorem entry_v4 : (V m c main_v4 : S64x1.Idx → EReal) = shapeCast S64x1 (argBf m c) shapeCasts_S64_S64x1 := rfl
/-- The last layer's bias as a column. -/
theorem entry_v5 : (V m c main_v5 : S64x1.Idx → EReal) = shapeCast S64x1 (argBo m c) shapeCasts_S64_S64x1 := rfl

/-! ## The blocks -/

section
variable (t : Fin cfg0.N)

/-- The first table's row numbers: row `r` of the block is node `r`. -/
theorem block0 (r : Fin 50) (b : Fin 2048) : (iblk m c 0 t : S50x2048.Idx → BitVec 32) (ix2 r b) = argAtom m c (ix2 (colAt t b) r) := by
  show (V m c main_v0 : S50x4096.Idx → BitVec 32) (((cfg0.win 0).blk t).view.emb (ix2 r b)) = _
  rw [entry_v0]; pointwise; blk_ext [idx t]
/-- The second table's row numbers. -/
theorem block1 (r : Fin 50) (b : Fin 2048) : (iblk m c 1 t : S50x2048.Idx → BitVec 32) (ix2 r b) = argHybrid m c (ix2 (colAt t b) r) := by
  show (V m c main_v1 : S50x4096.Idx → BitVec 32) (((cfg0.win 1).blk t).view.emb (ix2 r b)) = _
  rw [entry_v1]; pointwise; blk_ext [idx t]
/-- The features of the point's five nodes. -/
theorem block2 (a : Fin 5) (k : Fin 16) (b : Fin 2048) :
    (iblk m c 2 t : S5x16x2048.Idx → EReal) (ix3 a k b) = argCont m c (ix3 (colAt t b) (nodeAt t a) k) := by
  show (V m c main_v2 : S50x16x4096.Idx → EReal) (((cfg0.win 2).blk t).view.emb (ix3 a k b)) = _
  rw [entry_v2]; pointwise; blk_ext [idx t]
/-- The first table. -/
theorem block3 (v : Fin 128) (j : Fin 32) : (iblk m c 3 t : S128x32.Idx → EReal) (ix2 v j) = argAt m c (ix2 v j) := by
  blk_ext [iblk, V, idx t]
/-- The second table. -/
theorem block4 (v : Fin 8) (j : Fin 16) : (iblk m c 4 t : S8x16.Idx → EReal) (ix2 v j) = argHt m c (ix2 v j) := by
  blk_ext [iblk, V, idx t]
/-- The features' weights. -/
theorem block5 (k j : Fin 16) : (iblk m c 5 t : S16x16.Idx → EReal) (ix2 k j) = argWc m c (ix2 k j) := by
  blk_ext [iblk, V, idx t]
/-- The features' bias. -/
theorem block6 (j : Fin 16) : (iblk m c 6 t : S1x16.Idx → EReal) (ix2 0 j) = argBc m c (ix1 j) := by
  show (V m c main_v3 : S1x16.Idx → EReal) (((cfg0.win 6).blk t).view.emb (ix2 0 j)) = _
  rw [entry_v3]; pointwise; blk_ext [idx t]
/-- The first layer's weights. -/
theorem block7 (j h : Fin 64) : (iblk m c 7 t : S64x64.Idx → EReal) (ix2 j h) = argWf m c (ix2 j h) := by
  blk_ext [iblk, V, idx t]
/-- The first layer's bias. -/
theorem block8 (h : Fin 64) : (iblk m c 8 t : S64x1.Idx → EReal) (ix2 h 0) = argBf m c (ix1 h) := by
  show (V m c main_v4 : S64x1.Idx → EReal) (((cfg0.win 8).blk t).view.emb (ix2 h 0)) = _
  rw [entry_v4]; pointwise; blk_ext [idx t]
/-- The last layer's weights. -/
theorem block9 (h o : Fin 64) : (iblk m c 9 t : S64x64.Idx → EReal) (ix2 h o) = argWo m c (ix2 h o) := by
  blk_ext [iblk, V, idx t]
/-- The last layer's bias. -/
theorem block10 (o : Fin 64) : (iblk m c 10 t : S64x1.Idx → EReal) (ix2 o 0) = argBo m c (ix1 o) := by
  show (V m c main_v5 : S64x1.Idx → EReal) (((cfg0.win 10).blk t).view.emb (ix2 o 0)) = _
  rw [entry_v5]; pointwise; blk_ext [idx t]

end

end Cert.KernelIdeal

end
-- ==== Proof.Consts.lean ====
/- The float constants that the two programs and the precondition spell, as the extended reals they denote. -/
module

public import Idealize.ShloMosaic.PureOps.Ideal
public import Idealize.ShloMosaic.PureOps.Ideal.Laws

@[expose] public section

noncomputable section

namespace Cert.NodeMap

open Idealize.ShloMosaic

/-- One half, in the kernel's 16-bit format. -/
theorem half_bf16 : Ideal.ofBits .bf16 0x3F00#16 = ((1 / 2 : ℝ) : EReal) := by
  simp [Ideal.ofBits, Ideal.ieee, -EReal.coe_mul]; norm_num
/-- One half, in single precision. -/
theorem half_f32 : Ideal.ofBits .f32 0x3F000000#32 = ((1 / 2 : ℝ) : EReal) := by
  simp [Ideal.ofBits, Ideal.ieee, -EReal.coe_mul]; norm_num
/-- The reference's factor of the cube, in single precision. -/
theorem cubic_f32 : Ideal.ofBits .f32 0x3D372713#32 = ((12003091 / 268435456 : ℝ) : EReal) := by
  simp [Ideal.ofBits, Ideal.ieee, -EReal.coe_mul]; norm_num
/-- The reference's factor inside the hyperbolic tangent, in single precision. -/
theorem root_f32 : Ideal.ofBits .f32 0x3F4C422A#32 = ((6693141 / 8388608 : ℝ) : EReal) := by
  simp [Ideal.ofBits, Ideal.ieee, -EReal.coe_mul]; norm_num
/-- Positive infinity, in single precision. -/
theorem inf_f32 : Ideal.ofBits .f32 0x7F800000#32 = ⊤ := by
  simp [Ideal.ofBits, Ideal.ieee]

end Cert.NodeMap

end
-- ==== Proof.Atom.lean ====
/- What the kernel's body computes for one node, at an element: each of the five unrolled computations of a grid point,
   read at result row `o` and batch column `b`, is `outOf` of the resident tables. -/
module

public import proofs.«01_k».proof.Proof.Gen.KernelIdeal.Skeleton
public import proofs.«01_k».proof.Proof.Math
public import proofs.«01_k».proof.Proof.Consts
public import Idealize.ShloMosaic.Lib.Pointwise

@[expose] public section

set_option maxRecDepth 16384

noncomputable section

namespace Cert.KernelIdeal

open Idealize.ShloMosaic Idealize.SL.Sem Gen Cert.NodeMap

/-- The kernel's named constant `cubic`. -/
theorem cubic_named : Named.named (F := Ideal) κ "cubic" (φ := .bf16) 0x3D37#16 = ((12003091 / 268435456 : ℝ) : EReal) :=
  IdealRules.named_const.ideal_named_scalar _ _ _ _ rfl
/-- The kernel's named constant `root`. -/
theorem root_named : Named.named (F := Ideal) κ "root" (φ := .bf16) 0x3F4C#16 = ((6693141 / 8388608 : ℝ) : EReal) :=
  IdealRules.named_const.ideal_named_scalar _ _ _ _ rfl

/-- One node's result off the resident tables: `ta`, `th`, `w1`, `b1`, `wo`, `bo` as they lie in the scratch buffers, the
    two words and the features as the point loads them, at batch column `b`. -/
def atomOut (ta : Vec Ideal S64x128 .bf16) (th : Vec Ideal S64x8 .bf16) (w1 : Vec Ideal S64x16 .f32) (b1 : Vec Ideal S64x1 .f32)
    (wo : Vec Ideal S64x64 .bf16) (bo : Vec Ideal S64x1 .f32) (aid hid : Vec Ideal S1x2048 .i32) (x : Vec Ideal S1x16x2048 .f32)
    (o : Fin 64) (b : Fin 2048) : EReal :=
  outOf (fun h v => ta (ix2 h v)) (fun h v => th (ix2 h v)) (fun h k => w1 (ix2 h k)) (fun h => b1 (ix2 h 0))
    (fun h o => wo (ix2 h o)) (fun o => bo (ix2 o 0)) (aid (ix2 0 b)) (hid (ix2 0 b)) (fun k => x (ix3 0 k b)) o

section
variable (ta : Vec Ideal S64x128 .bf16) (th : Vec Ideal S64x8 .bf16) (w1 : Vec Ideal S64x16 .f32) (b1 : Vec Ideal S64x1 .f32)
  (wo : Vec Ideal S64x64 .bf16) (bo : Vec Ideal S64x1 .f32) (aid hid : Vec Ideal S1x2048 .i32) (x : Vec Ideal S1x16x2048 .f32)
  (o : Fin 64) (b : Fin 2048)

/-- The first node of a point. -/
theorem node0 : k0_pay10 (F := Ideal) th w1 b1 wo bo (k0_pay8 hid) (k0_pay9 ta aid) x (ix3 0 o b)
    = atomOut ta th w1 b1 wo bo aid hid x o b := by
  pointwise [k0_pay10, k0_pay8, k0_pay9, half_bf16, cubic_named, root_named]
  rfl
/-- The second node of a point. -/
theorem node1 : k0_pay13 (F := Ideal) ta th w1 b1 wo bo (k0_pay11 hid) (iota .tc S128x2048 32 [0] iota_S128x2048_d0_w32)
      (k0_pay12 aid) x (ix3 0 o b)
    = atomOut ta th w1 b1 wo bo aid hid x o b := by
  pointwise [k0_pay13, k0_pay11, k0_pay12, half_bf16, cubic_named, root_named]
  rfl
/-- The third node of a point. -/
theorem node2 : k0_pay15 (F := Ideal) (k0_pay14 ta th w1 b1 wo bo aid hid x) (ix3 0 o b)
    = atomOut ta th w1 b1 wo bo aid hid x o b := by
  pointwise [k0_pay15, k0_pay14, half_bf16, cubic_named, root_named]
  rfl
/-- The fourth node of a point. -/
theorem node3 : k0_pay18 (F := Ideal) wo bo (k0_pay16 ta th w1 b1 aid hid x) (k0_pay17 ta th w1 b1 aid hid x) (ix3 0 o b)
    = atomOut ta th w1 b1 wo bo aid hid x o b := by
  pointwise [k0_pay18, k0_pay16, k0_pay17, half_bf16, cubic_named, root_named]
  rfl
/-- The fifth node of a point. -/
theorem node4 : k0_pay1 (F := Ideal) wo bo (k0_pay19 ta th w1 aid hid x) (k0_pay20 b1) (ix3 0 o b)
    = atomOut ta th w1 b1 wo bo aid hid x o b := by
  pointwise [k0_pay1, k0_pay19, k0_pay20, half_bf16, cubic_named, root_named]
  rfl

end

end Cert.KernelIdeal

end
-- ==== Proof.Tables.lean ====
/- What the kernel keeps in its five scratch buffers: after every grid point they hold the folded tables of the argument
   arrays, which the first point writes and the later ones carry. -/
module

public import proofs.«01_k».proof.Proof.Entry
public import proofs.«01_k».proof.Proof.Atom
public import Idealize.ShloMosaic.Lib.Pipeline.ValueKit.Held
public import Idealize.ShloMosaic.Lib.Pipeline.ReadBack

@[expose] public section

set_option maxRecDepth 16384

noncomputable section

namespace Cert.KernelIdeal

open Idealize.ShloMosaic Idealize.ShloMosaic.TcCoe Idealize.SL.Sem Gen Cert.NodeMap

variable (m : (ℓ : Loc nD τ sig) → Buf (Elt Ideal) ℓ) (c : Dev nD)

/-! ## What the first point writes -/

section
variable (t : Fin cfg0.N)

/-- The first point writes the first table, folded. -/
theorem scratch0_first (h0 : t.val % 20 = 0) (h : Fin 64) (v : Fin 128) :
    (outsAt0 m c t.val t.isLt).2.1 (ix2 h v) = atomFold (weights m c) h v := by
  rw [outsAt0_A m c t h0]; frame_out
  pointwise [k0_pay2, atomFold, row, weights, block3, block4, block5, block6, block7, block8, block9]
/-- The first point writes the second table, folded. -/
theorem scratch1_first (h0 : t.val % 20 = 0) (h : Fin 64) (v : Fin 8) :
    (outsAt0 m c t.val t.isLt).2.2.1 (ix2 h v) = hybridFold (weights m c) h v := by
  rw [outsAt0_A m c t h0]; frame_out
  pointwise [k0_pay3, hybridFold, weights, block3, block4, block5, block6, block7, block8, block9]
/-- The first point writes the features' weights, folded. -/
theorem scratch2_first (h0 : t.val % 20 = 0) (h : Fin 64) (k : Fin 16) :
    (outsAt0 m c t.val t.isLt).2.2.2.1 (ix2 h k) = contFold (weights m c) h k := by
  rw [outsAt0_A m c t h0]; frame_out
  pointwise [k0_pay4, contFold, weights, block3, block4, block5, block6, block7, block8, block9]
/-- The first point writes the folded bias. -/
theorem scratch3_first (h0 : t.val % 20 = 0) (h : Fin 64) :
    (outsAt0 m c t.val t.isLt).2.2.2.2.1 (ix2 h 0) = biasFold (weights m c) h := by
  rw [outsAt0_A m c t h0]; frame_out
  pointwise [k0_pay5, biasFold, weights, block3, block4, block5, block6, block7, block8, block9]
/-- The first point writes the last layer's weights. -/
theorem scratch4_first (h0 : t.val % 20 = 0) (h o : Fin 64) :
    (outsAt0 m c t.val t.isLt).2.2.2.2.2 (ix2 h o) = (weights m c).wo h o := by
  rw [outsAt0_A m c t h0]; frame_out
  pointwise [k0_pay6, weights, block3, block4, block5, block6, block7, block8, block9]
end

/-! ## What every point leaves -/

/-- A part of what the points leave that the first point sets to `g` and the others carry is `g` after every point. -/
theorem held {ι : Type} (f : (n : ℕ) → n < cfg0.N → ι → EReal) (g : ι → EReal)
    (h0 : ∀ t : Fin cfg0.N, t.val % 20 = 0 → ∀ i, f t.val t.isLt i = g i)
    (hs : ∀ t : Fin cfg0.N, ¬t.val % 20 = 0 → ∀ i, f t.val t.isLt i = f (t.val - 1) (Nat.lt_of_le_of_lt (Nat.sub_le _ _) t.isLt) i)
    (n : ℕ) (hn : n < cfg0.N) (i : ι) : f n hn i = g i :=
  Pipeline.eq_of_write_hold_apply f 20 (fun _ => g) h0 hs ⟨n, hn⟩ i

section
variable (n : ℕ) (hn : n < cfg0.N)

/-- The first scratch buffer holds the first table, folded. -/
theorem scratch0 (h : Fin 64) (v : Fin 128) : (outsAt0 m c n hn).2.1 (ix2 h v) = atomFold (weights m c) h v :=
  held (fun n hn (i : Fin 64 × Fin 128) => (outsAt0 m c n hn).2.1 (ix2 i.1 i.2)) (fun i => atomFold (weights m c) i.1 i.2)
    (fun t h0 i => scratch0_first m c t h0 i.1 i.2) (fun t h0 i => by rw [outsAt0_B m c t h0]; rfl) n hn (h, v)
/-- The second scratch buffer holds the second table, folded. -/
theorem scratch1 (h : Fin 64) (v : Fin 8) : (outsAt0 m c n hn).2.2.1 (ix2 h v) = hybridFold (weights m c) h v :=
  held (fun n hn (i : Fin 64 × Fin 8) => (outsAt0 m c n hn).2.2.1 (ix2 i.1 i.2)) (fun i => hybridFold (weights m c) i.1 i.2)
    (fun t h0 i => scratch1_first m c t h0 i.1 i.2) (fun t h0 i => by rw [outsAt0_B m c t h0]; rfl) n hn (h, v)
/-- The third scratch buffer holds the features' weights, folded. -/
theorem scratch2 (h : Fin 64) (k : Fin 16) : (outsAt0 m c n hn).2.2.2.1 (ix2 h k) = contFold (weights m c) h k :=
  held (fun n hn (i : Fin 64 × Fin 16) => (outsAt0 m c n hn).2.2.2.1 (ix2 i.1 i.2)) (fun i => contFold (weights m c) i.1 i.2)
    (fun t h0 i => scratch2_first m c t h0 i.1 i.2) (fun t h0 i => by rw [outsAt0_B m c t h0]; rfl) n hn (h, k)
/-- The fourth scratch buffer holds the folded bias. -/
theorem scratch3 (h : Fin 64) : (outsAt0 m c n hn).2.2.2.2.1 (ix2 h 0) = biasFold (weights m c) h :=
  held (fun n hn (h : Fin 64) => (outsAt0 m c n hn).2.2.2.2.1 (ix2 h 0)) (fun h => biasFold (weights m c) h)
    (fun t h0 h => scratch3_first m c t h0 h) (fun t h0 h => by rw [outsAt0_B m c t h0]; rfl) n hn h
/-- The fifth scratch buffer holds the last layer's weights. -/
theorem scratch4 (h o : Fin 64) : (outsAt0 m c n hn).2.2.2.2.2 (ix2 h o) = (weights m c).wo h o :=
  held (fun n hn (i : Fin 64 × Fin 64) => (outsAt0 m c n hn).2.2.2.2.2 (ix2 i.1 i.2)) (fun i => (weights m c).wo i.1 i.2)
    (fun t h0 i => scratch4_first m c t h0 i.1 i.2) (fun t h0 i => by rw [outsAt0_B m c t h0]; rfl) n hn (h, o)
end

end Cert.KernelIdeal

end
-- ==== Proof.Block.lean ====
/- What a grid point computes: the block it leaves in the output window, at coordinates of the argument arrays. -/
module

public import proofs.«01_k».proof.Proof.Tables

@[expose] public section

set_option maxRecDepth 16384

noncomputable section

namespace Cert.KernelIdeal

open Idealize.ShloMosaic Idealize.ShloMosaic.TcCoe Idealize.SL.Sem Gen Cert.NodeMap

variable (m : (ℓ : Loc nD τ sig) → Buf (Elt Ideal) ℓ) (c : Dev nD)

/-- The result that the folded computation gives for node `a` of batch column `b`, at row `o`. -/
def result (b : Fin 4096) (a : Fin 50) (o : Fin 64) : EReal :=
  folded (weights m c) (argAtom m c (ix2 b a)) (argHybrid m c (ix2 b a)) (fun k => argCont m c (ix3 b a k)) o

/-- Node `a` of a point reads row `5 · (t mod 10) + a` of the row numbers' block. -/
theorem off_eq : ∀ (t : Fin grid0.N) (a : Fin 5), k0_off1 (grid0.coords t) (BitVec.ofNat 32 a.val) = ![t.val % 10 * 5 + a.val, 0] := by
  decide +kernel

section
variable (t : Fin cfg0.N)

/-- The row of the first table's row numbers that a point loads for its node `a`. -/
theorem load0 (a : Fin 5) (w : BitVec 32) (hw : w = BitVec.ofNat 32 a.val) (inb) (b : Fin 2048) :
    (View.ld (iblk m c 0 t) (Rect.unit (s := S50x2048) (k0_off1 (grid0.coords t) w) ![1, 2048] inb) : S1x2048.Idx → BitVec 32) (ix2 0 b)
      = argAtom m c (ix2 (colAt t b) (nodeAt t a)) := by
  subst hw
  rw [← block0]
  revert inb
  rw [off_eq t a]
  intro inb
  refine View.ld_unit_apply_of _ _ _ _ _ _ fun i => ?_
  match i with
  | ⟨0, _⟩ => rfl
  | ⟨1, _⟩ => exact (Nat.zero_add _).symm
/-- The row of the second table's row numbers that a point loads for its node `a`. -/
theorem load1 (a : Fin 5) (w : BitVec 32) (hw : w = BitVec.ofNat 32 a.val) (inb) (b : Fin 2048) :
    (View.ld (iblk m c 1 t) (Rect.unit (s := S50x2048) (k0_off1 (grid0.coords t) w) ![1, 2048] inb) : S1x2048.Idx → BitVec 32) (ix2 0 b)
      = argHybrid m c (ix2 (colAt t b) (nodeAt t a)) := by
  subst hw
  rw [← block1]
  revert inb
  rw [off_eq t a]
  intro inb
  refine View.ld_unit_apply_of _ _ _ _ _ _ fun i => ?_
  match i with
  | ⟨0, _⟩ => rfl
  | ⟨1, _⟩ => exact (Nat.zero_add _).symm
/-- The features that a point loads for its node `a`. -/
theorem load2 (a : Fin 5) (off : Fin 3 → ℕ) (hoff : off = ![a.val, 0, 0]) (inb) (k : Fin 16) (b : Fin 2048) :
    (View.ld (iblk m c 2 t) (Rect.unit (s := S5x16x2048) off ![1, 16, 2048] inb) : S1x16x2048.Idx → EReal) (ix3 0 k b)
      = argCont m c (ix3 (colAt t b) (nodeAt t a) k) := by
  subst hoff
  rw [← block2]
  refine View.ld_unit_apply_of _ _ _ _ _ _ fun i => ?_
  match i with
  | ⟨0, _⟩ => rfl
  | ⟨1, _⟩ => exact (Nat.zero_add _).symm
  | ⟨2, _⟩ => exact (Nat.zero_add _).symm

/-- One node's computation off tables that hold the folded weights, words and features loaded for node `a`, is `result`. -/
theorem tile (a : Fin 5) (ta : Vec Ideal S64x128 .bf16) (th : Vec Ideal S64x8 .bf16) (w1 : Vec Ideal S64x16 .f32)
    (b1 : Vec Ideal S64x1 .f32) (wo : Vec Ideal S64x64 .bf16) (w : BitVec 32) (hw : w = BitVec.ofNat 32 a.val) (inb inb')
    (off : Fin 3 → ℕ) (hoff : off = ![a.val, 0, 0]) (inb'')
    (hta : ∀ h v, ta (ix2 h v) = atomFold (weights m c) h v) (hth : ∀ h v, th (ix2 h v) = hybridFold (weights m c) h v)
    (hw1 : ∀ h k, w1 (ix2 h k) = contFold (weights m c) h k) (hb1 : ∀ h, b1 (ix2 h 0) = biasFold (weights m c) h)
    (hwo : ∀ h o, wo (ix2 h o) = (weights m c).wo h o) (o : Fin 64) (b : Fin 2048) :
    atomOut ta th w1 b1 wo (k0_pay7 (iblk m c 10 t))
        (View.ld (iblk m c 0 t) (Rect.unit (s := S50x2048) (k0_off1 (grid0.coords t) w) ![1, 2048] inb))
        (View.ld (iblk m c 1 t) (Rect.unit (s := S50x2048) (k0_off1 (grid0.coords t) w) ![1, 2048] inb'))
        (View.ld (iblk m c 2 t) (Rect.unit (s := S5x16x2048) off ![1, 16, 2048] inb'')) o b
      = result m c (colAt t b) (nodeAt t a) o := by
  have hbo : ∀ o : Fin 64, k0_pay7 (F := Ideal) (iblk m c 10 t) (ix2 o 0) = (weights m c).bo o := fun o => by
    pointwise [k0_pay7, weights, block10]
  have h0 := load0 m c t a w hw inb b
  have h1 := load1 m c t a w hw inb' b
  have h2 := fun k => load2 m c t a off hoff inb'' k b
  unfold atomOut result folded
  simp only [hta, hth, hw1, hb1, hwo, hbo, h0, h1, h2]

/-- At a point that finds the folded weights kept from the point before, the output's block is `result`. -/
theorem block_later (h0 : ¬ t.val % 20 = 0) (a : Fin 5) (o : Fin 64) (b : Fin 2048) :
    (outsAt0 m c t.val t.isLt).1 (ix3 a o b) = result m c (colAt t b) (nodeAt t a) o := by
  rw [outsAt0_B m c t h0]; frame_out
  canon_tiles x hh
  all_goals
    simp only [read_unread_whole]
    obtain ⟨z, o', b', rfl⟩ : ∃ (z : Fin 1) (o' : Fin 64) (b' : Fin 2048), x = ix3 z o' b' := ⟨x 0, x 1, x 2, eq_ix3 x⟩
    obtain rfl : z = 0 := Subsingleton.elim _ _
    obtain rfl : o = o' := Fin.ext hh1
    obtain rfl : b = b' := Fin.ext hh2
  · obtain rfl : a = 4 := Fin.ext hh0
    rw [node4]
    exact tile m c t 4 _ _ _ _ _ _ rfl _ _ _ rfl _ (scratch0 m c _ _) (scratch1 m c _ _) (scratch2 m c _ _) (scratch3 m c _ _) (scratch4 m c _ _) o b
  · obtain rfl : a = 3 := Fin.ext hh0
    rw [node3]
    exact tile m c t 3 _ _ _ _ _ _ rfl _ _ _ rfl _ (scratch0 m c _ _) (scratch1 m c _ _) (scratch2 m c _ _) (scratch3 m c _ _) (scratch4 m c _ _) o b
  · obtain rfl : a = 2 := Fin.ext hh0
    rw [node2]
    exact tile m c t 2 _ _ _ _ _ _ rfl _ _ _ rfl _ (scratch0 m c _ _) (scratch1 m c _ _) (scratch2 m c _ _) (scratch3 m c _ _) (scratch4 m c _ _) o b
  · obtain rfl : a = 1 := Fin.ext hh0
    rw [node1]
    exact tile m c t 1 _ _ _ _ _ _ rfl _ _ _ rfl _ (scratch0 m c _ _) (scratch1 m c _ _) (scratch2 m c _ _) (scratch3 m c _ _) (scratch4 m c _ _) o b
  · obtain rfl : a = 0 := Fin.ext hh0
    rw [node0]
    exact tile m c t 0 _ _ _ _ _ _ rfl _ _ _ rfl _ (scratch0 m c _ _) (scratch1 m c _ _) (scratch2 m c _ _) (scratch3 m c _ _) (scratch4 m c _ _) o b

/-- At a point that folds the weights itself, the output's block is `result`. -/
theorem block_first (h0 : t.val % 20 = 0) (a : Fin 5) (o : Fin 64) (b : Fin 2048) :
    (outsAt0 m c t.val t.isLt).1 (ix3 a o b) = result m c (colAt t b) (nodeAt t a) o := by
  rw [outsAt0_A m c t h0]; frame_out
  canon_tiles x hh
  all_goals
    obtain ⟨z, o', b', rfl⟩ : ∃ (z : Fin 1) (o' : Fin 64) (b' : Fin 2048), x = ix3 z o' b' := ⟨x 0, x 1, x 2, eq_ix3 x⟩
    obtain rfl : z = 0 := Subsingleton.elim _ _
    obtain rfl : o = o' := Fin.ext hh1
    obtain rfl : b = b' := Fin.ext hh2
  · obtain rfl : a = 4 := Fin.ext hh0
    rw [node4]
    exact tile m c t 4 _ _ _ _ _ _ rfl _ _ _ rfl _
      (fun h v => by pointwise [atomFold, row, weights, block3, block7])
      (fun h v => by pointwise [hybridFold, row, weights, block4, block7])
      (fun h k => by pointwise [contFold, row, weights, block5, block7])
      (fun h => by pointwise [biasFold, row, weights, block6, block7, block8])
      (fun h o => by pointwise [k0_pay6, weights, block9]) o b
  · obtain rfl : a = 3 := Fin.ext hh0
    rw [node3]
    exact tile m c t 3 _ _ _ _ _ _ rfl _ _ _ rfl _
      (fun h v => by pointwise [atomFold, row, weights, block3, block7])
      (fun h v => by pointwise [hybridFold, row, weights, block4, block7])
      (fun h k => by pointwise [contFold, row, weights, block5, block7])
      (fun h => by pointwise [biasFold, row, weights, block6, block7, block8])
      (fun h o => by pointwise [k0_pay6, weights, block9]) o b
  · obtain rfl : a = 2 := Fin.ext hh0
    rw [node2]
    exact tile m c t 2 _ _ _ _ _ _ rfl _ _ _ rfl _
      (fun h v => by pointwise [atomFold, row, weights, block3, block7])
      (fun h v => by pointwise [hybridFold, row, weights, block4, block7])
      (fun h k => by pointwise [contFold, row, weights, block5, block7])
      (fun h => by pointwise [biasFold, row, weights, block6, block7, block8])
      (fun h o => by pointwise [k0_pay6, weights, block9]) o b
  · obtain rfl : a = 1 := Fin.ext hh0
    rw [node1]
    exact tile m c t 1 _ _ _ _ _ _ rfl _ _ _ rfl _
      (fun h v => by pointwise [atomFold, row, weights, block3, block7])
      (fun h v => by pointwise [hybridFold, row, weights, block4, block7])
      (fun h k => by pointwise [contFold, row, weights, block5, block7])
      (fun h => by pointwise [biasFold, row, weights, block6, block7, block8])
      (fun h o => by pointwise [k0_pay6, weights, block9]) o b
  · obtain rfl : a = 0 := Fin.ext hh0
    rw [node0]
    exact tile m c t 0 _ _ _ _ _ _ rfl _ _ _ rfl _
      (fun h v => by pointwise [atomFold, row, weights, block3, block7])
      (fun h v => by pointwise [hybridFold, row, weights, block4, block7])
      (fun h k => by pointwise [contFold, row, weights, block5, block7])
      (fun h => by pointwise [biasFold, row, weights, block6, block7, block8])
      (fun h o => by pointwise [k0_pay6, weights, block9]) o b

/-- Every point leaves `result` in the output's block. -/
theorem block_out (a : Fin 5) (o : Fin 64) (b : Fin 2048) :
    (outsAt0 m c t.val t.isLt).1 (ix3 a o b) = result m c (colAt t b) (nodeAt t a) o := by
  by_cases h0 : t.val % 20 = 0
  · exact block_first m c t h0 a o b
  · exact block_later m c t h0 a o b
end

/-- Where an entry of a point's output block lies in the output array. -/
theorem out_at (t : Fin cfg0.grid.N) (a : Fin 5) (o : Fin 64) (b : Fin 2048) :
    ((win0_11.blk t).view.emb (ix3 a o b) : S50x64x4096.Idx) = ix3 (nodeAt t a) o (colAt t b) := by
  blk_ext [idx t]

/-- The launch's output array holds `result`. -/
theorem array_out : (dats m 0 c).arrAt 11 cfg0.N = fun i : S50x64x4096.Idx => result m c (i 2) (i 0) (i 1) := by
  refine (dats m 0 c).arrAt_eq_of_covers 11 _ (by decide +kernel) fun t hf y => ?_
  blk_simp
  rw [after0_11]
  obtain ⟨a, o, b, rfl⟩ : ∃ (a : Fin 5) (o : Fin 64) (b : Fin 2048), y = ix3 a o b := ⟨y 0, y 1, y 2, eq_ix3 y⟩
  rw [out_at t a o b]
  exact block_out m c t a o b
end Cert.KernelIdeal

end
-- ==== Proof.Run.lean ====
/- What the kernel's run leaves in its result and its arguments. -/
module

public import proofs.«01_k».proof.Proof.Block

@[expose] public section

set_option maxRecDepth 16384

noncomputable section

namespace Cert.KernelIdeal

open Idealize.ShloMosaic Idealize.ShloMosaic.TcCoe Idealize.SL.Sem Gen Cert.NodeMap

variable (m : (ℓ : Loc nD τ sig) → Buf (Elt Ideal) ℓ) (c : Dev nD)

/-- After the launch and the transposition behind it, the result holds `result`. -/
theorem tail_out : Pipeline.afterTail₀ cfgs (dats m) 0 (V0 m) [hostOps1] c main_v7
    = fun i : S4096x50x64.Idx => result m c (i 0) (i 1) (i 2) := by
  have e : Pipeline.withArrays (cfgs 0).spec c (V0 m c) (fun w => (dats m 0 c).arrAt w (cfgs 0).N) (Proc.devRef .tc main_v6)
      = fun i : S50x64x4096.Idx => result m c (i 2) (i 0) (i 1) :=
    (Pipeline.withArrays_arr (cfgs 0).spec (by decide +kernel) c _ _ 11).trans (array_out m c)
  show transpose S4096x50x64 [2, 0, 1] (Pipeline.withArrays (cfgs 0).spec c (V0 m c) (fun w => (dats m 0 c).arrAt w (cfgs 0).N) (Proc.devRef .tc main_v6)) transposes_S50x64x4096_S4096x50x64_2_0_1 = _
  rw [e]
  funext i
  obtain ⟨b, a, o, rfl⟩ : ∃ (b : Fin 4096) (a : Fin 50) (o : Fin 64), i = ix3 b a o := ⟨i 0, i 1, i 2, eq_ix3 i⟩
  pointwise

/-- Every run leaves `result` in the result and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v7) = (fun i : S4096x50x64.Idx => result m c (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ⟨?_, h.2 c⟩) (θ_run_and (Gen.run_main m ρ) (Gen.unchanged m ρ))
  exact ((h.1 c).2 main_v7 (Pipeline.mem_restRefs_of main_v7 (by decide) (by decide))).trans (tail_out m c)

end Cert.KernelIdeal

end
-- ==== Proof.Rows.lean ====
/- Looking rows of a table up at an array of row numbers. -/
module

public import Idealize.ShloMosaic.Lib.Pointwise
public import Idealize.ShloMosaic.Lib.Affine

@[expose] public section

noncomputable section

namespace Cert.Rows

open Idealize.ShloMosaic

/-- A small number's word, read as a signed number, is that number. -/
theorem toInt_small (r : ℕ) (hr : r < 2 ^ 31) : (BitVec.ofNat 32 r).toInt = r := by
  have e : (BitVec.ofNat 32 r).toNat = r := by rw [BitVec.toNat_ofNat]; exact Nat.mod_eq_of_lt (by omega)
  rw [BitVec.toInt_eq_toNat_of_lt (by rw [e]; omega), e]

/-- A word that two comparisons find between 0 and `n` is that of a number below `n`. -/
theorem word_of_bits (w : BitVec 32) (n : ℕ) (hn : n < 2 ^ 31)
    (h : IntOp.andi (IntOp.cmpi .sge w 0#32) (IntOp.cmpi .slt w (BitVec.ofNat 32 n)) = 1#1) :
    ∃ r : Fin n, w = BitVec.ofNat 32 r.val := by
  obtain ⟨h0, h1⟩ := IntOp.andi_eq_one.mp h
  have h0' := IntOp.cmpi_sge.mp h0
  have h1' := IntOp.cmpi_slt.mp h1
  rw [toInt_small n hn] at h1'
  have hz : (0#32).toInt = 0 := by decide
  rw [hz] at h0'
  have hw : w.toInt = w.toNat := by
    have hlt := w.isLt
    have hc := BitVec.toInt_eq_toNat_cond w
    by_cases hw : 2 * w.toNat < 2 ^ 32
    · rw [if_pos hw] at hc; exact hc
    · rw [if_neg hw] at hc; omega
  exact ⟨⟨w.toNat, by omega⟩, by simp⟩

/-- A gather that takes whole rows of an `N × D` table at an `A × B` array of row numbers: where the number is `r`, entry
    `k` of what it gives is entry `k` of row `r`. -/
theorem gather_at {α : Type} {N D A B : ℕ} (d : GatherDims ⟨2, ![N, D]⟩ ⟨3, ![A, B, 1]⟩ ⟨3, ![A, B, D]⟩)
    (wf : GatherDims.WF ⟨2, ![N, D]⟩ ⟨3, ![A, B, 1]⟩ ⟨3, ![A, B, D]⟩ [2] [0] [] [0] [] 2 ![1, D])
    (hd : d = ⟨[2], [0], [], [], [0], 2, ![1, D], wf⟩) (x : (⟨2, ![N, D]⟩ : Shape).Idx → α)
    (i : IVec ⟨3, ![A, B, 1]⟩ 32) (a : Fin A) (b : Fin B) (k : Fin D) (r : Fin N) (hN : N < 2 ^ 31)
    (hi : i (ix3 a b 0) = BitVec.ofNat 32 r.val) : Host.gather d x i (ix3 a b k) = x (ix2 r k) := by
  subst hd
  unfold Host.gather
  refine congrArg x (funext fun e => Fin.ext ?_)
  match e with
  | ⟨0, _⟩ =>
    show GatherDims.start _ (ix3 a b k) i 0 + GatherDims.batchCoord _ (ix3 a b k) 0 + GatherDims.offCoord _ (ix3 a b k) 0 = r.val
    rw [GatherDims.batchCoord_eq_zero _ _ _ List.not_mem_nil, GatherDims.offCoord_eq_zero _ _ _
      (fun h => ((GatherDims.mem_sKept _ _).mp h).1 (List.mem_singleton.mpr rfl)), Nat.add_zero]
    unfold GatherDims.start
    rw [dif_pos (List.mem_singleton.mpr rfl)]
    refine (congrArg (fun j => min (i j).toInt.toNat (N - 1) + 0) (a₂ := ix3 a b 0) (funext fun e => Fin.ext ?_)).trans ?_
    · match e with
      | ⟨0, _⟩ => rfl
      | ⟨1, _⟩ => rfl
      | ⟨2, _⟩ => rfl
    · have hr := r.isLt
      have h := toInt_small r.val (by omega)
      show min (i (ix3 a b 0)).toInt.toNat (N - 1) + 0 = r.val
      rw [hi, h]
      omega
  | ⟨1, _⟩ =>
    show GatherDims.start _ (ix3 a b k) i 1 + GatherDims.batchCoord _ (ix3 a b k) 1 + GatherDims.offCoord _ (ix3 a b k) 1 = k.val
    rw [GatherDims.batchCoord_eq_zero _ _ _ List.not_mem_nil, Nat.add_zero]
    unfold GatherDims.start GatherDims.offCoord
    rw [dif_neg (fun h => Nat.one_ne_zero (congrArg Fin.val (List.mem_singleton.mp h))),
      dif_pos ((GatherDims.mem_sKept _ _).mpr ⟨fun h => Nat.one_ne_zero (congrArg Fin.val (List.mem_singleton.mp h)), List.not_mem_nil⟩), Nat.zero_add]
    rfl

end Cert.Rows

end
-- ==== Proof.Ref.lean ====
/- What the reference computes, at coordinates of its argument arrays. -/
module

public import proofs.«01_k».proof.Proof.Math
public import proofs.«01_k».proof.Proof.Consts
public import proofs.«01_k».proof.Proof.Rows
public import proofs.«01_k».proof.Proof.Gen.ReferenceIdeal.Run
public import Idealize.ShloMosaic.Lib.ReduceAll

@[expose] public section

set_option maxRecDepth 16384

noncomputable section

namespace Cert.ReferenceIdeal

open Idealize.ShloMosaic Idealize.ShloMosaic.TcCoe Idealize.SL.Sem Gen Facts Cert.NodeMap

/-! ## The row numbers -/

/-- Row numbers as the reference prepares them: `n` more where one is negative, and an axis of one entry behind. -/
def ids (i : IVec S4096x50 32) (n : BitVec 32) : IVec S4096x50x1 32 :=
  broadcastInDim S4096x50x1 ![0, 1] bcast_S4096x50_S4096x50x1_0_1
    (select (cmpi .slt i (broadcastInDim S4096x50 ![] bcast_S_S4096x50 (constantI S_ 32 0#32)))
      (addi i (broadcastInDim S4096x50 ![] bcast_S_S4096x50 (constantI S_ 32 n))) i)

/-- The bits that say which of those lie between 0 and `l`. -/
def inside (j : IVec S4096x50x1 32) (l : BitVec 32) : IVec S4096x50 1 :=
  Host.reduce IntOp.andi
    (andi (cmpi .sge j (broadcastInDim S4096x50x1 ![] bcast_S_S4096x50x1 (constantI S_ 32 0#32)))
      (cmpi .sle j (broadcastInDim S4096x50x1 ![0, 1, 2] bcast_S1x1x1_S4096x50x1_0_1_2
        (broadcastInDim S1x1x1 ![2] bcast_S1_S1x1x1_2 (constantI S1 32 l)))))
    (constantI S_ 1 1#1) reducesTo_S4096x50x1_S4096x50_d2 h_S_

/-- A row number that is there is left as it is. -/
theorem ids_at (i : IVec S4096x50 32) (n : BitVec 32) (b : Fin 4096) (a : Fin 50) (r : ℕ) (hr : r < 128)
    (hi : i (ix2 b a) = BitVec.ofNat 32 r) (z : Fin 1) : ids i n (ix3 b a z) = BitVec.ofNat 32 r := by
  have h0 : IntOp.cmpi .slt (BitVec.ofNat 32 r) 0#32 ≠ 1#1 := fun h => by
    have := IntOp.cmpi_slt.mp h
    rw [Cert.Rows.toInt_small r (by omega), show (0#32).toInt = 0 from by decide] at this
    omega
  pointwise [ids, hi]
  exact if_neg h0

/-- Where every row number is there, every one lies inside. -/
theorem inside_at (i : IVec S4096x50 32) (n l : BitVec 32) (R : Fin 4096 → Fin 50 → ℕ) (hl : l.toNat < 128)
    (hR : ∀ b a, R b a ≤ l.toNat) (hi : ∀ b a, i (ix2 b a) = BitVec.ofNat 32 (R b a)) (b : Fin 4096) (a : Fin 50) :
    inside (ids i n) l (ix2 b a) = 1#1 := by
  unfold inside
  refine Host.reduce_andi_one _ _ _ _ _ rfl fun y => ?_
  obtain ⟨b, a, z, rfl⟩ : ∃ (b : Fin 4096) (a : Fin 50) (z : Fin 1), y = ix3 b a z := ⟨y 0, y 1, y 2, eq_ix3 y⟩
  have hw := ids_at i n b a _ (lt_of_le_of_lt (hR b a) hl) (hi b a) z
  have hr := hR b a
  pointwise [hw]
  refine IntOp.andi_eq_one.mpr ⟨IntOp.cmpi_sge.mpr ?_, IntOp.cmpi_sle.mpr ?_⟩ <;> rw [Cert.Rows.toInt_small _ (by omega)]
  · rw [Cert.Rows.toInt_small _ (by omega)]; omega
  · rw [BitVec.toInt_eq_toNat_of_lt (by omega)]; omega

variable (m : (ℓ : Loc nD τ sig) → Buf (Elt Ideal) ℓ) (c : Dev nD)

/-- The features that the reference is called with. -/
abbrev argCont : FVec Ideal S4096x50x16 .f32 := m ((c.tc : Thread nD τ).loc main_arg2)
/-- The features' map's weights. -/
abbrev argWc : FVec Ideal S16x16 .f32 := m ((c.tc : Thread nD τ).loc main_arg5)
/-- The first layer's weights. -/
abbrev argWf : FVec Ideal S64x64 .f32 := m ((c.tc : Thread nD τ).loc main_arg7)
/-- The last layer's weights. -/
abbrev argWo : FVec Ideal S64x64 .f32 := m ((c.tc : Thread nD τ).loc main_arg9)

/-- The tables, weights and biases that the reference is called with. -/
def weights : Weights where
  atom v j := (m ((c.tc : Thread nD τ).loc main_arg3) : S128x32.Idx → EReal) (ix2 v j)
  hybrid v j := (m ((c.tc : Thread nD τ).loc main_arg4) : S8x16.Idx → EReal) (ix2 v j)
  wc k j := argWc m c (ix2 k j)
  bc j := (m ((c.tc : Thread nD τ).loc main_arg6) : S16.Idx → EReal) (ix1 j)
  wf j h := argWf m c (ix2 j h)
  bf h := (m ((c.tc : Thread nD τ).loc main_arg8) : S64.Idx → EReal) (ix1 h)
  wo h o := argWo m c (ix2 h o)
  bo o := (m ((c.tc : Thread nD τ).loc main_arg10) : S64.Idx → EReal) (ix1 o)

/-- The first table's rows as the reference looks them up. -/
def first : FVec Ideal S4096x50x32 .f32 :=
  select (broadcastInDim S4096x50x32 ![0, 1] bcast_S4096x50_S4096x50x32_0_1
      (inside (ids (m ((c.tc : Thread nD τ).loc main_arg0)) 128#32) 127#32))
    (Host.gather gather_S128x32_S4096x50x1_S4096x50x32_2_0_n_n_0_2_132 (m ((c.tc : Thread nD τ).loc main_arg3))
      (ids (m ((c.tc : Thread nD τ).loc main_arg0)) 128#32))
    (broadcastInDim S4096x50x32 ![] bcast_S_S4096x50x32 (constant S_ .f32 0x7FC00000#32))

/-- The second table's rows as the reference looks them up. -/
def second : FVec Ideal S4096x50x16 .f32 :=
  select (broadcastInDim S4096x50x16 ![0, 1] bcast_S4096x50_S4096x50x16_0_1
      (inside (ids (m ((c.tc : Thread nD τ).loc main_arg1)) 8#32) 7#32))
    (Host.gather gather_S8x16_S4096x50x1_S4096x50x16_2_0_n_n_0_2_116 (m ((c.tc : Thread nD τ).loc main_arg4))
      (ids (m ((c.tc : Thread nD τ).loc main_arg1)) 8#32))
    (broadcastInDim S4096x50x16 ![] bcast_S_S4096x50x16 (constant S_ .f32 0x7FC00000#32))

/-- The features after their affine map. -/
def mapped : FVec Ideal S4096x50x16 .f32 :=
  addf (Host.dotGeneral dot_S4096x50x16_S16x16_S4096x50x16_2_0_01_1_n_n none (argCont m c)
      (argWc m c))
    (broadcastInDim S4096x50x16 ![0, 1, 2] bcast_S1x1x16_S4096x50x16_0_1_2
      (broadcastInDim S1x1x16 ![2] bcast_S16_S1x1x16_2 (m ((c.tc : Thread nD τ).loc main_arg6))))

/-- The first layer on the three lined up. -/
def pre : FVec Ideal S4096x50x64 .f32 :=
  addf (Host.dotGeneral dot_S4096x50x64_S64x64_S4096x50x64_2_0_01_1_n_n none
      (concatenate S4096x50x64 2 [⟨S4096x50x32, first m c⟩, ⟨S4096x50x16, second m c⟩, ⟨S4096x50x16, mapped m c⟩]
        concatenates_S4096x50x32_S4096x50x16_S4096x50x16_S4096x50x64_d2)
      (argWf m c))
    (broadcastInDim S4096x50x64 ![0, 1, 2] bcast_S1x1x64_S4096x50x64_0_1_2
      (broadcastInDim S1x1x64 ![2] bcast_S64_S1x1x64_2 (m ((c.tc : Thread nD τ).loc main_arg8))))

/-- The smooth step after it. -/
def smooth : FVec Ideal S4096x50x64 .f32 :=
  mulf (pre m c) (mulf (broadcastInDim S4096x50x64 ![] bcast_S_S4096x50x64 (constant S_ .f32 0x3F000000#32))
    (addf (broadcastInDim S4096x50x64 ![] bcast_S_S4096x50x64 (constant S_ .f32 0x3F800000#32))
      (Host.tanh (mulf (broadcastInDim S4096x50x64 ![] bcast_S_S4096x50x64 (constant S_ .f32 0x3F4C422A#32))
        (addf (pre m c) (mulf (broadcastInDim S4096x50x64 ![] bcast_S_S4096x50x64 (constant S_ .f32 0x3D372713#32))
          (mulf (mulf (pre m c) (pre m c)) (pre m c))))))))

/-- The reference's result is the last layer on that. -/
theorem result_eq : Value.res_main_v27 m c
    = addf (Host.dotGeneral dot_S4096x50x64_S64x64_S4096x50x64_2_0_01_1_n_n none (smooth m c) (argWo m c))
      (broadcastInDim S4096x50x64 ![0, 1, 2] bcast_S1x1x64_S4096x50x64_0_1_2
        (broadcastInDim S1x1x64 ![2] bcast_S64_S1x1x64_2 (m ((c.tc : Thread nD τ).loc main_arg10)))) := rfl

section
variable (R : Fin 4096 → Fin 50 → Fin 128) (S : Fin 4096 → Fin 50 → Fin 8)
  (hr : ∀ b a, (m ((c.tc : Thread nD τ).loc main_arg0) : S4096x50.Idx → BitVec 32) (ix2 b a) = BitVec.ofNat 32 (R b a).val)
  (hs : ∀ b a, (m ((c.tc : Thread nD τ).loc main_arg1) : S4096x50.Idx → BitVec 32) (ix2 b a) = BitVec.ofNat 32 (S b a).val)
  (b : Fin 4096) (a : Fin 50)
include hr in
/-- Where the row numbers are `R`, the row of the first table that is looked up is row `R b a`. -/
theorem first_at (j : Fin 32) : first m c (ix3 b a j) = (weights m c).atom (R b a) j := by
  have h1 := inside_at _ 128#32 127#32 (fun b a => (R b a).val) (by decide) (fun b a => Nat.le_of_lt_succ (R b a).isLt) hr b a
  have h2 := ids_at _ 128#32 b a _ (R b a).isLt (hr b a) 0
  have h3 := Cert.Rows.gather_at gather_S128x32_S4096x50x1_S4096x50x32_2_0_n_n_0_2_132 gather_S128x32_S4096x50x1_S4096x50x32_2_0_n_n_0_2_132_wf rfl
    (m ((c.tc : Thread nD τ).loc main_arg3) : S128x32.Idx → EReal) _ b a j (R b a) (by decide) h2
  pointwise [first, h1, h3, weights]
include hs in
/-- Where the row numbers are `S`, the row of the second table that is looked up is row `S b a`. -/
theorem second_at (j : Fin 16) : second m c (ix3 b a j) = (weights m c).hybrid (S b a) j := by
  have h1 := inside_at _ 8#32 7#32 (fun b a => (S b a).val) (by decide) (fun b a => Nat.le_of_lt_succ (S b a).isLt) hs b a
  have h2 := ids_at _ 8#32 b a _ (by omega) (hs b a) 0
  have h3 := Cert.Rows.gather_at gather_S8x16_S4096x50x1_S4096x50x16_2_0_n_n_0_2_116 gather_S8x16_S4096x50x1_S4096x50x16_2_0_n_n_0_2_116_wf rfl
    (m ((c.tc : Thread nD τ).loc main_arg4) : S8x16.Idx → EReal) _ b a j (S b a) (by decide) h2
  pointwise [second, h1, h3, weights]

/-- The features that the reference is called with, for node `a` of batch row `b`. -/
abbrev feats (k : Fin 16) : EReal := argCont m c (ix3 b a k)

/-- The mapped features are the features' affine map. -/
theorem mapped_at (j : Fin 16) : mapped m c (ix3 b a j) = cont (weights m c) (feats m c b a) j := by
  pointwise [mapped, cont, feats, weights]
include hr hs in
/-- The first layer is that of the plain computation. -/
theorem pre_at (h : Fin 64) : pre m c (ix3 b a h) = preDirect (weights m c) (R b a) (S b a) (feats m c b a) h := by
  have h1 := first_at m c R hr b a
  have h2 := second_at m c S hs b a
  have h3 := mapped_at m c b a
  pointwise [pre, preDirect, entry, h1, h2, h3]
  rfl
include hr hs in
/-- The smooth step is `gelu`. -/
theorem smooth_at (h : Fin 64) : smooth m c (ix3 b a h) = gelu (preDirect (weights m c) (R b a) (S b a) (feats m c b a) h) := by
  rw [← pre_at m c R S hr hs b a]
  pointwise [smooth, gelu, half_f32, cubic_f32, root_f32, mul_assoc]
include hr hs in
/-- Where the row numbers are `R` and `S`, the reference's result is the plain computation's. -/
theorem result_at (o : Fin 64) : (Value.res_main_v27 m c : S4096x50x64.Idx → EReal) (ix3 b a o)
    = direct (weights m c) (R b a) (S b a) (feats m c b a) o := by
  have h := smooth_at m c R S hr hs b a
  rw [result_eq]
  pointwise [direct, h, weights]
end

end Cert.ReferenceIdeal

end
-- ==== Proof.Domain.lean ====
/- What the precondition says of the arguments. -/
module

public import proofs.«01_k».proof.Pre_in_domain
public import proofs.«01_k».proof.Proof.Math
public import proofs.«01_k».proof.Proof.Consts
public import proofs.«01_k».proof.Proof.Rows

@[expose] public section

noncomputable section

namespace Cert.Proof

open Idealize.ShloMosaic

/-- The precondition's side conditions. -/
instance facts_pre : Cert.Pre_in_domain.Facts where
  bcast_S_S4096x50 := by decide
  bcast_S_S4096x50x16 := by decide
  bcast_S_S16x16 := by decide
  slices_S64x64_S16x64_48_0 := by decide
  bcast_S_S16x64 := by decide

/-- An extended real whose magnitude a comparison finds below infinity is a real number. -/
theorem real_of_bit (x : EReal) (h : Ideal.cmp .olt (max x (-x)) (Ideal.ofBits .f32 0x7F800000#32) = 1#1) : ∃ a : ℝ, x = a := by
  rw [Cert.NodeMap.inf_f32] at h
  have hlt : max x (-x) < ⊤ := by
    by_contra hn
    have h' : BitVec.ofBool (decide (max x (-x) < ⊤)) = 1#1 := h
    rw [decide_eq_false hn] at h'
    exact absurd h' (by decide)
  induction x with
  | bot => simp at hlt
  | top => simp at hlt
  | coe a => exact ⟨a, rfl⟩

/-- What the precondition says of the arguments that it is called with. -/
theorem domain (a0 a1 : IVec Cert.Pre_in_domain.S4096x50 32) (a2 : FVec Ideal Cert.Pre_in_domain.S4096x50x16 .f32)
    (a3 : FVec Ideal Cert.Pre_in_domain.S128x32 .f32) (a4 : FVec Ideal Cert.Pre_in_domain.S8x16 .f32)
    (a5 : FVec Ideal Cert.Pre_in_domain.S16x16 .f32) (a6 : FVec Ideal Cert.Pre_in_domain.S16 .f32)
    (a7 : FVec Ideal Cert.Pre_in_domain.S64x64 .f32) (a8 : FVec Ideal Cert.Pre_in_domain.S64 .f32)
    (a9 : FVec Ideal Cert.Pre_in_domain.S64x64 .f32) (a10 : FVec Ideal Cert.Pre_in_domain.S64 .f32)
    (h : (Cert.Pre_in_domain.fn (F := Ideal) a0 a1 a2 a3 a4 a5 a6 a7 a8 a9 a10).1 = (fun _ => 1#1)
      ∧ (Cert.Pre_in_domain.fn (F := Ideal) a0 a1 a2 a3 a4 a5 a6 a7 a8 a9 a10).2.1 = (fun _ => 1#1)
      ∧ (Cert.Pre_in_domain.fn (F := Ideal) a0 a1 a2 a3 a4 a5 a6 a7 a8 a9 a10).2.2.1 = (fun _ => 1#1)
      ∧ (Cert.Pre_in_domain.fn (F := Ideal) a0 a1 a2 a3 a4 a5 a6 a7 a8 a9 a10).2.2.2.1 = (fun _ => 1#1)
      ∧ (Cert.Pre_in_domain.fn (F := Ideal) a0 a1 a2 a3 a4 a5 a6 a7 a8 a9 a10).2.2.2.2 = (fun _ => 1#1)) :
    (∀ (b : Fin 4096) (a : Fin 50), ∃ r : Fin 128, a0 (ix2 b a) = BitVec.ofNat 32 r.val)
    ∧ (∀ (b : Fin 4096) (a : Fin 50), ∃ s : Fin 8, a1 (ix2 b a) = BitVec.ofNat 32 s.val)
    ∧ (∀ (b : Fin 4096) (a : Fin 50) (k : Fin 16), ∃ x : ℝ, a2 (ix3 b a k) = (x : EReal))
    ∧ (∀ (k j : Fin 16), ∃ x : ℝ, a5 (ix2 k j) = (x : EReal))
    ∧ (∀ (j : Fin 16) (o : Fin 64), ∃ x : ℝ, a7 (ix2 (Cert.NodeMap.row 48 j (by decide)) o) = (x : EReal)) := by
  obtain ⟨h0, h1, h2, h3, h4⟩ := h
  refine ⟨fun b a => ?_, fun b a => ?_, fun b a k => ?_, fun k j => ?_, fun j o => ?_⟩
  · have e := congrFun h0 (ix2 b a)
    exact Cert.Rows.word_of_bits _ 128 (by decide) e
  · have e := congrFun h1 (ix2 b a)
    exact Cert.Rows.word_of_bits _ 8 (by decide) e
  · have e := congrFun h2 (ix3 b a k)
    exact real_of_bit _ e
  · have e := congrFun h3 (ix2 k j)
    exact real_of_bit _ e
  · have e := congrFun h4 (ix2 j o)
    have e' : a7 (ix2 (Cert.NodeMap.row 48 j (by decide)) o) = extractStridedSlice Cert.Pre_in_domain.S16x64 ![48, 0] a7 Cert.Pre_in_domain.Facts.slices_S64x64_S16x64_48_0 (ix2 j o) := by
      pointwise [Cert.NodeMap.row]
    rw [e']
    exact real_of_bit _ e

end Cert.Proof

end
-- ==== Proof.lean ====
/- The certificate: the claim's parts from the run of the kernel, the run of the reference and the equation between what
   the two leave behind. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Ref
public import proofs.«01_k».proof.Proof.Domain
public import Idealize.ShloMosaic.Lib.Quiescent
public import Idealize.ShloMosaic.Adequacy
public import Idealize.ShloMosaic.Init

@[expose] public section

noncomputable section

namespace Cert.Proof

open Idealize.ShloMosaic Idealize.SL.Sem

/-- The reference's run, as a frame. -/
theorem reference_frame : Cert.quiescent_ReferenceIdeal := by
  intro m ρ _
  exact (θ_run _ _ _).mono (fun r h => ⟨fun c => (h c).2, sem_eq_zero_of_no_sems (by decide) r.2⟩)
    (Cert.ReferenceIdeal.Value.run (F := Ideal) m ρ)

/-- The kernel's constants are the named numbers' nearest in their format. -/
theorem preserves : Cert.preserves_Kernel_KernelIdeal :=
  ⟨IdealRules.named_const.statement Cert.KernelIdeal.κ "cubic" .bf16 0x3D37#16 ((12003091 / 268435456 : ℝ) : EReal) rfl,
   IdealRules.named_const.statement Cert.KernelIdeal.κ "root" .bf16 0x3F4C#16 ((6693141 / 8388608 : ℝ) : EReal) rfl⟩

/-- In the domain, the kernel and the reference leave the same result. -/
theorem algebraic : Cert.algebraic_KernelIdeal_ReferenceIdeal_pre_in_domain := by
  intro m g m' g' hpre hargs
  refine ⟨fun c => fun i : Cert.KernelIdeal.S4096x50x64.Idx => Cert.KernelIdeal.result m c (i 0) (i 1) (i 2),
    Cert.KernelIdeal.run m g, (θ_run _ _ _).mono (fun r h c => ⟨(h c).1.trans ?_, (h c).2⟩) (Cert.ReferenceIdeal.Value.run (F := Ideal) m' g')⟩
  obtain ⟨hr, hs, hx, hc, hf⟩ := domain _ _ _ _ _ _ _ _ _ _ _ (hpre c)
  obtain ⟨e0, e1, e2, e3, e4, e5, e6, e7, e8, e9, e10⟩ := hargs c
  choose R hR using hr
  choose S hS using hs
  funext i
  obtain ⟨b, a, o, rfl⟩ : ∃ (b : Fin 4096) (a : Fin 50) (o : Fin 64), i = ix3 b a o := ⟨i 0, i 1, i 2, eq_ix3 i⟩
  have hw : Cert.ReferenceIdeal.weights m' c = Cert.KernelIdeal.weights m c := by
    unfold Cert.ReferenceIdeal.weights Cert.KernelIdeal.weights Cert.ReferenceIdeal.argWc Cert.ReferenceIdeal.argWf Cert.ReferenceIdeal.argWo
    rw [e3, e4, e5, e6, e7, e8, e9, e10]
  have hfe : Cert.ReferenceIdeal.feats m' c b a = fun k => Cert.KernelIdeal.argCont m c (ix3 b a k) := by
    funext k
    exact congrFun e2 (ix3 b a k)
  refine (Cert.ReferenceIdeal.result_at m' c R S (fun b a => (congrFun e0 (ix2 b a)).trans (hR b a))
    (fun b a => (congrFun e1 (ix2 b a)).trans (hS b a)) b a o).trans ?_
  rw [hw, hfe]
  exact (Cert.NodeMap.folded_eq_direct (P := Cert.KernelIdeal.weights m c) (ha := hR b a) (hh := hS b a) (hx := hx b a) (hc := hc) (hf := hf) o).symm

/-- The certificate's claim. -/
theorem claim : Cert.Claim := ⟨Cert.Kernel.Gen.facts, Cert.KernelIdeal.Gen.facts, Cert.ReferenceIdeal.Gen.facts, facts_pre,
  fun m ρ _ => Cert.Kernel.Gen.frame m ρ, fun m ρ _ => Cert.KernelIdeal.Gen.frame m ρ,
  fun m ρ _ => Cert.KernelIdeal.Gen.frame m ρ, reference_frame, fun m ρ _ => reference_frame m ρ trivial, preserves, algebraic⟩

end Cert.Proof

end
